-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_log_decays [hPre_finite_log_decays : Cert.Pre_finite_log_decays.Facts] (m : (ℓ : Loc Cert.KernelIdeal.nD Cert.KernelIdeal.τ Cert.KernelIdeal.sig) → Buf (Elt Ideal) ℓ) : Prop :=
  ∀ c : Dev Cert.KernelIdeal.nD,
    (Cert.Pre_finite_log_decays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_log_decays [hPre_finite_log_decays : Cert.Pre_finite_log_decays.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_log_decays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_log_decays [hKernelIdeal : Cert.KernelIdeal.Facts] [hPre_finite_log_decays : Cert.Pre_finite_log_decays.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_log_decays m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_log_decays [hReferenceIdeal : Cert.ReferenceIdeal.Facts] [hPre_finite_log_decays : Cert.Pre_finite_log_decays.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_log_decays m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_log_decays [hKernelIdeal : Cert.KernelIdeal.Facts] [hReferenceIdeal : Cert.ReferenceIdeal.Facts] [hPre_finite_log_decays : Cert.Pre_finite_log_decays.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_log_decays m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_log_decays : Cert.Pre_finite_log_decays.Facts),
    quiescent_Kernel (hKernel := hKernel)
    ∧ quiescent_KernelIdeal (hKernelIdeal := hKernelIdeal)
    ∧ quiescent_KernelIdeal_pre_finite_log_decays (hKernelIdeal := hKernelIdeal) (hPre_finite_log_decays := hPre_finite_log_decays)
    ∧ quiescent_ReferenceIdeal (hReferenceIdeal := hReferenceIdeal)
    ∧ quiescent_ReferenceIdeal_pre_finite_log_decays (hReferenceIdeal := hReferenceIdeal) (hPre_finite_log_decays := hPre_finite_log_decays)
    ∧ preserves_Kernel_KernelIdeal
    ∧ algebraic_KernelIdeal_ReferenceIdeal_pre_finite_log_decays (hKernelIdeal := hKernelIdeal) (hReferenceIdeal := hReferenceIdeal) (hPre_finite_log_decays := hPre_finite_log_decays)
-- ==== Pre_finite_log_decays.lean ====
abbrev S4x8192x32x64 : Shape := ⟨4, ![4, 8192, 32, 64]⟩
abbrev S4x8192x32 : Shape := ⟨3, ![4, 8192, 32]⟩
abbrev S4x8192x32x16 : Shape := ⟨4, ![4, 8192, 32, 16]⟩
abbrev S_ : Shape := ⟨0, ![]⟩

class Facts : Prop where
  bcast_S_S4x8192x32 : S_.BroadcastsInDim S4x8192x32 (![] : Fin 0 → Fin S4x8192x32.rank)

variable [Facts]

def fn {F : FTy → Type} [FloatOps F] (main_arg0 : FVec F S4x8192x32x64 .f32) (main_arg1 : FVec F S4x8192x32 .f32) (main_arg2 : FVec F S4x8192x32x16 .f32) : IVec S4x8192x32 1 :=
  let main_v0 : FVec F S4x8192x32 .f32 := Host.absf main_arg1
  let main_cst : FVec F S_ .f32 := constant S_ .f32 0x7F800000#32
  let main_v1 : FVec F S4x8192x32 .f32 := broadcastInDim S4x8192x32 ![] bcast_S_S4x8192x32 main_cst
  let main_v2 : IVec S4x8192x32 1 := cmpf .olt main_v0 main_v1
  main_v2
-- ==== Kernel.lean ====
abbrev S4x8192x32x64 : Shape := ⟨4, ![4, 8192, 32, 64]⟩
abbrev S4x8192x32 : Shape := ⟨3, ![4, 8192, 32]⟩
abbrev S4x8192x32x16 : Shape := ⟨4, ![4, 8192, 32, 16]⟩
abbrev S256x256 : Shape := ⟨2, ![256, 256]⟩
abbrev S128x8 : Shape := ⟨2, ![128, 8]⟩
abbrev S_ : Shape := ⟨0, ![]⟩
abbrev S4x32x64x8192 : Shape := ⟨4, ![4, 32, 64, 8192]⟩
abbrev S4x2048x8192 : Shape := ⟨3, ![4, 2048, 8192]⟩
abbrev S4x32x16x8192 : Shape := ⟨4, ![4, 32, 16, 8192]⟩
abbrev S4x512x8192 : Shape := ⟨3, ![4, 512, 8192]⟩
abbrev S4x32x8192 : Shape := ⟨3, ![4, 32, 8192]⟩
abbrev S16x8x64x16 : Shape := ⟨4, ![16, 8, 64, 16]⟩
abbrev S1x8x4096 : Shape := ⟨3, ![1, 8, 4096]⟩
abbrev S1x512x4096 : Shape := ⟨3, ![1, 512, 4096]⟩
abbrev S1x128x4096 : Shape := ⟨3, ![1, 128, 4096]⟩
abbrev S1x8x64x16 : Shape := ⟨4, ![1, 8, 64, 16]⟩
abbrev S8x1 : Shape := ⟨2, ![8, 1]⟩
abbrev S512x128 : Shape := ⟨2, ![512, 128]⟩
abbrev S8x4096 : Shape := ⟨2, ![8, 4096]⟩
abbrev S8x256 : Shape := ⟨2, ![8, 256]⟩
abbrev S128x256 : Shape := ⟨2, ![128, 256]⟩
abbrev S128 : Shape := ⟨1, ![128]⟩
abbrev S128x1 : Shape := ⟨2, ![128, 1]⟩
abbrev S128x4096 : Shape := ⟨2, ![128, 4096]⟩
abbrev S512x4096 : Shape := ⟨2, ![512, 4096]⟩
abbrev S64x16 : Shape := ⟨2, ![64, 16]⟩
abbrev S1x1x64x16 : Shape := ⟨4, ![1, 1, 64, 16]⟩

abbrev nBuf : Space → Nat
  | .hbm => 35
  | .vmem => 12
  | .smem => 0
  | _ => 0

abbrev bufTy : (tb : Table) → Fin (tcTables nBuf tb) → BufTy
  | .hbm, ⟨0, _⟩ => ⟨S4x8192x32x64, .f32⟩
  | .hbm, ⟨1, _⟩ => ⟨S4x8192x32, .f32⟩
  | .hbm, ⟨2, _⟩ => ⟨S4x8192x32x16, .f32⟩
  | .hbm, ⟨3, _⟩ => ⟨S256x256, .i32⟩
  | .hbm, ⟨4, _⟩ => ⟨S256x256, .i32⟩
  | .hbm, ⟨5, _⟩ => ⟨S256x256, .i1⟩
  | .hbm, ⟨6, _⟩ => ⟨S256x256, .bf16⟩
  | .hbm, ⟨7, _⟩ => ⟨S128x8, .i32⟩
  | .hbm, ⟨8, _⟩ => ⟨S128x8, .i32⟩
  | .hbm, ⟨9, _⟩ => ⟨S_, .i32⟩
  | .hbm, ⟨10, _⟩ => ⟨S_, .i32⟩
  | .hbm, ⟨11, _⟩ => ⟨S128x8, .i32⟩
  | .hbm, ⟨12, _⟩ => ⟨S128x8, .i32⟩
  | .hbm, ⟨13, _⟩ => ⟨S128x8, .i32⟩
  | .hbm, ⟨14, _⟩ => ⟨S_, .i32⟩
  | .hbm, ⟨15, _⟩ => ⟨S128x8, .i32⟩
  | .hbm, ⟨16, _⟩ => ⟨S128x8, .i1⟩
  | .hbm, ⟨17, _⟩ => ⟨S128x8, .i32⟩
  | .hbm, ⟨18, _⟩ => ⟨S128x8, .i32⟩
  | .hbm, ⟨19, _⟩ => ⟨S_, .i32⟩
  | .hbm, ⟨20, _⟩ => ⟨S128x8, .i32⟩
  | .hbm, ⟨21, _⟩ => ⟨S128x8, .i1⟩
  | .hbm, ⟨22, _⟩ => ⟨S128x8, .i1⟩
  | .hbm, ⟨23, _⟩ => ⟨S_, .i32⟩
  | .hbm, ⟨24, _⟩ => ⟨S128x8, .i32⟩
  | .hbm, ⟨25, _⟩ => ⟨S128x8, .i32⟩
  | .hbm, ⟨26, _⟩ => ⟨S128x8, .i32⟩
  | .hbm, ⟨27, _⟩ => ⟨S128x8, .i1⟩
  | .hbm, ⟨28, _⟩ => ⟨S128x8, .bf16⟩
  | .hbm, ⟨29, _⟩ => ⟨S4x32x64x8192, .f32⟩
  | .hbm, ⟨30, _⟩ => ⟨S4x2048x8192, .f32⟩
  | .hbm, ⟨31, _⟩ => ⟨S4x32x16x8192, .f32⟩
  | .hbm, ⟨32, _⟩ => ⟨S4x512x8192, .f32⟩
  | .hbm, ⟨33, _⟩ => ⟨S4x32x8192, .f32⟩
  | .hbm, ⟨34, _⟩ => ⟨S16x8x64x16, .f32⟩
  | .local _ .vmem, ⟨0, _⟩ => ⟨S1x8x4096, .f32⟩
  | .local _ .vmem, ⟨1, _⟩ => ⟨S1x8x4096, .f32⟩
  | .local _ .vmem, ⟨2, _⟩ => ⟨S1x512x4096, .f32⟩
  | .local _ .vmem, ⟨3, _⟩ => ⟨S1x512x4096, .f32⟩
  | .local _ .vmem, ⟨4, _⟩ => ⟨S1x128x4096, .f32⟩
  | .local _ .vmem, ⟨5, _⟩ => ⟨S1x128x4096, .f32⟩
  | .local _ .vmem, ⟨6, _⟩ => ⟨S256x256, .bf16⟩
  | .local _ .vmem, ⟨7, _⟩ => ⟨S128x8, .bf16⟩
  | .local _ .vmem, ⟨8, _⟩ => ⟨S1x8x64x16, .f32⟩
  | .local _ .vmem, ⟨9, _⟩ => ⟨S1x8x64x16, .f32⟩
  | .local _ .vmem, ⟨10, _⟩ => ⟨S8x1, .f32⟩
  | .local _ .vmem, ⟨11, _⟩ => ⟨S512x128, .f32⟩
  | _, _ => ⟨S4x8192x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 2], ![false, false]⟩

def k0_cond4 (i : grid0.Coords) : BitVec 1 :=
  let arg1 : BitVec 32 := BitVec.ofNat 32 (i 1).val
  let c1_i32 : BitVec 32 := 1#32
  let v137 : BitVec 1 := Scalar.cmpi .eq arg1 c1_i32
  let v138 : BitVec 32 := Scalar.extui v137
  let c0_i32_25 : BitVec 32 := 0#32
  let v139 : BitVec 1 := Scalar.cmpi .ne v138 c0_i32_25
  v139

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.subi c1_i32_10 arg1
  let c0_i32_11 : BitVec 32 := 0#32
  ![v16.toNat, v26.toNat, v27.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.subi c1_i32_10 arg1
  let c0_i32_11 : BitVec 32 := 0#32
  ![v16.toNat, v26.toNat, v27.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let v27 : BitVec 32 := Scalar.subi c1_i32_10 arg1
  let c0_i32_11 : BitVec 32 := 0#32
  ![v16.toNat, v26.toNat, v27.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x8 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x64x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S4x8192x32x64 : Shape := ⟨4, ![4, 8192, 32, 64]⟩
abbrev S4x8192x32 : Shape := ⟨3, ![4, 8192, 32]⟩
abbrev S4x8192x32x16 : Shape := ⟨4, ![4, 8192, 32, 16]⟩
abbrev S4x128x64x32x64 : Shape := ⟨5, ![4, 128, 64, 32, 64]⟩
abbrev S4x128x64x32x16 : Shape := ⟨5, ![4, 128, 64, 32, 16]⟩
abbrev S4x128x64x32 : Shape := ⟨4, ![4, 128, 64, 32]⟩
abbrev S4x32x128x64 : Shape := ⟨4, ![4, 32, 128, 64]⟩
abbrev S_ : Shape := ⟨0, ![]⟩
abbrev S4x32x128x1 : Shape := ⟨4, ![4, 32, 128, 1]⟩
abbrev S4x128x64x32x1 : Shape := ⟨5, ![4, 128, 64, 32, 1]⟩
abbrev S4x128x32x64x16 : Shape := ⟨5, ![4, 128, 32, 64, 16]⟩
abbrev S4x1x32x64x16 : Shape := ⟨5, ![4, 1, 32, 64, 16]⟩
abbrev S4x129x32x64x16 : Shape := ⟨5, ![4, 129, 32, 64, 16]⟩
abbrev S4x32x128 : Shape := ⟨3, ![4, 32, 128]⟩
abbrev S4x32x129 : Shape := ⟨3, ![4, 32, 129]⟩
abbrev S4x32x1 : Shape := ⟨3, ![4, 32, 1]⟩
abbrev S4x32x64x16 : Shape := ⟨4, ![4, 32, 64, 16]⟩
abbrev S16x8x64x16 : Shape := ⟨4, ![16, 8, 64, 16]⟩

abbrev nBuf : Space → Nat
  | .hbm => 37
  | .vmem => 0
  | .smem => 0
  | _ => 0

abbrev bufTy : (tb : Table) → Fin (tcTables nBuf tb) → BufTy
  | .hbm, ⟨0, _⟩ => ⟨S4x8192x32x64, .f32⟩
  | .hbm, ⟨1, _⟩ => ⟨S4x8192x32, .f32⟩
  | .hbm, ⟨2, _⟩ => ⟨S4x8192x32x16, .f32⟩
  | .hbm, ⟨3, _⟩ => ⟨S4x128x64x32x64, .f32⟩
  | .hbm, ⟨4, _⟩ => ⟨S4x128x64x32x16, .f32⟩
  | .hbm, ⟨5, _⟩ => ⟨S4x128x64x32, .f32⟩
  | .hbm, ⟨6, _⟩ => ⟨S4x32x128x64, .f32⟩
  | .hbm, ⟨7, _⟩ => ⟨S_, .f32⟩
  | .hbm, ⟨8, _⟩ => ⟨S_, .f32⟩
  | .hbm, ⟨9, _⟩ => ⟨S4x32x128x64, .f32⟩
  | .hbm, ⟨10, _⟩ => ⟨S4x32x128x1, .f32⟩
  | .hbm, ⟨11, _⟩ => ⟨S4x32x128x64, .f32⟩
  | .hbm, ⟨12, _⟩ => ⟨S4x32x128x64, .f32⟩
  | .hbm, ⟨13, _⟩ => ⟨S4x32x128x64, .f32⟩
  | .hbm, ⟨14, _⟩ => ⟨S4x128x64x32, .f32⟩
  | .hbm, ⟨15, _⟩ => ⟨S4x128x64x32x1, .f32⟩
  | .hbm, ⟨16, _⟩ => ⟨S4x128x64x32x64, .f32⟩
  | .hbm, ⟨17, _⟩ => ⟨S4x128x64x32x64, .f32⟩
  | .hbm, ⟨18, _⟩ => ⟨S4x128x32x64x16, .f32⟩
  | .hbm, ⟨19, _⟩ => ⟨S4x1x32x64x16, .f32⟩
  | .hbm, ⟨20, _⟩ => ⟨S_, .f32⟩
  | .hbm, ⟨21, _⟩ => ⟨S4x1x32x64x16, .f32⟩
  | .hbm, ⟨22, _⟩ => ⟨S4x129x32x64x16, .f32⟩
  | .hbm, ⟨23, _⟩ => ⟨S4x32x128x1, .f32⟩
  | .hbm, ⟨24, _⟩ => ⟨S4x32x128, .f32⟩
  | .hbm, ⟨25, _⟩ => ⟨S_, .i32⟩
  | .hbm, ⟨26, _⟩ => ⟨S_, .f32⟩
  | .hbm, ⟨27, _⟩ => ⟨S4x32x129, .f32⟩
  | .hbm, ⟨28, _⟩ => ⟨S_, .f32⟩
  | .hbm, ⟨29, _⟩ => ⟨S_, .f32⟩
  | .hbm, ⟨30, _⟩ => ⟨S4x32x129, .f32⟩
  | .hbm, ⟨31, _⟩ => ⟨S4x32x1, .f32⟩
  | .hbm, ⟨32, _⟩ => ⟨S4x32x129, .f32⟩
  | .hbm, ⟨33, _⟩ => ⟨S4x32x129, .f32⟩
  | .hbm, ⟨34, _⟩ => ⟨S4x32x129, .f32⟩
  | .hbm, ⟨35, _⟩ => ⟨S4x32x64x16, .f32⟩
  | .hbm, ⟨36, _⟩ => ⟨S16x8x64x16, .f32⟩
  | _, _ => ⟨S4x8192x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_call0_cst : Ref sig .tc := ⟨.hbm, 7, rfl⟩
abbrev main_call0_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call1_v0 : Ref sig .tc := ⟨.hbm, 26, rfl⟩
abbrev main_v19 : Ref sig .tc := ⟨.hbm, 27, rfl⟩
abbrev main_call2_call0_cst : Ref sig .tc := ⟨.hbm, 28, rfl⟩
abbrev main_call2_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Proof.HostArrays.lean ====
/- The arrays the kernel's windows read, at an index, as the host operations before the call leave them. -/
module

public import Idealize.ShloMosaic.Lib.Pointwise
public import Idealize.ShloMosaic.Lib.StableHlo.Run
public import proofs.«01_k».proof.Proof.Gen.KernelIdeal.Frame.Runs

@[expose] public section

set_option maxRecDepth 16384

noncomputable section

namespace Cert.KernelIdeal.HostArrays

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (c : Dev nD)

/-- The log-decays, transposed so that the positions of one head lie next to each other. -/
theorem V_logs : Gen.V m c main_v13 = transpose S4x32x8192 [0, 2, 1] (m ((c : Thread nD τ).loc main_arg1)) transposes_S4x8192x32_S4x32x8192_0_2_1 := by
  unfold Gen.V
  simp only [hostOps0, hostOps0_1, hostOps0_2, List.flatten_cons, List.flatten_nil, List.append_nil, List.cons_append, List.nil_append, TRef.binary, TRef.nullary, TRef.unary, TRef.ternary, TRef.toBuf, TRef.ofBuf, cast_eq]
  after_results_simp <;> rfl

/-- The inputs, transposed and with the heads' rows stacked. -/
theorem V_inputs : Gen.V m c main_v10 = shapeCast S4x2048x8192 (transpose S4x32x64x8192 [0, 2, 3, 1] (m ((c : Thread nD τ).loc main_arg0)) transposes_S4x8192x32x64_S4x32x64x8192_0_2_3_1) shapeCasts_S4x32x64x8192_S4x2048x8192 := by
  unfold Gen.V
  simp only [hostOps0, hostOps0_1, hostOps0_2, List.flatten_cons, List.flatten_nil, List.append_nil, List.cons_append, List.nil_append, TRef.binary, TRef.nullary, TRef.unary, TRef.ternary, TRef.toBuf, TRef.ofBuf, cast_eq]
  after_results_simp <;> rfl

/-- The input projections, transposed and with the heads' rows stacked. -/
theorem V_proj : Gen.V m c main_v12 = shapeCast S4x512x8192 (transpose S4x32x16x8192 [0, 2, 3, 1] (m ((c : Thread nD τ).loc main_arg2)) transposes_S4x8192x32x16_S4x32x16x8192_0_2_3_1) shapeCasts_S4x32x16x8192_S4x512x8192 := by
  unfold Gen.V
  simp only [hostOps0, hostOps0_1, hostOps0_2, List.flatten_cons, List.flatten_nil, List.append_nil, List.cons_append, List.nil_append, TRef.binary, TRef.nullary, TRef.unary, TRef.ternary, TRef.toBuf, TRef.ofBuf, cast_eq]
  after_results_simp <;> rfl

/-- The set bit read as a number. -/
theorem uitofp_bit_one : FloatOps.uitofp (F := Ideal) FTy.bf16 (BitVec.ofBool true) = (1 : EReal) := by
  show ((((BitVec.ofBool true).toNat : ℝ)) : EReal) = 1
  rw [show (BitVec.ofBool true).toNat = 1 from rfl, Nat.cast_one, EReal.coe_one]

/-- The clear bit read as a number. -/
theorem uitofp_bit_zero : FloatOps.uitofp (F := Ideal) FTy.bf16 (BitVec.ofBool false) = (0 : EReal) := by
  show ((((BitVec.ofBool false).toNat : ℝ)) : EReal) = 0
  rw [show (BitVec.ofBool false).toNat = 0 from rfl, Nat.cast_zero, EReal.coe_zero]

/-- The mask that picks the positions after a given one. -/
theorem V_mask (j k : Fin 256) : Gen.V m c main_v3 (ix2 j k) = if k.val < j.val then (1 : EReal) else 0 := by
  have e : Gen.V m c main_v3 = (uitofp .bf16 (cmpi .sgt (iotaInDim S256x256 32 0) (iotaInDim S256x256 32 1)) : FVec Ideal S256x256 .bf16) := by
    unfold Gen.V
    simp only [hostOps0, hostOps0_1, hostOps0_2, List.flatten_cons, List.flatten_nil, List.append_nil, List.cons_append, List.nil_append, TRef.binary, TRef.nullary, TRef.unary, TRef.ternary, TRef.toBuf, TRef.ofBuf, cast_eq]
    after_results_simp <;> rfl
  rw [e]
  pointwise []
  have e1 : IntOp.cmpi CmpIPredicate.sgt (BitVec.ofNat 32 j.val) (BitVec.ofNat 32 k.val) = BitVec.ofBool (decide (k.val < j.val)) := by
    unfold IntOp.cmpi
    refine congrArg BitVec.ofBool ?_
    have hj : (BitVec.ofNat 32 j.val).toInt = j.val := by rw [BitVec.toInt_ofNat']; have := j.isLt; simp [Int.bmod]; omega
    have hk : (BitVec.ofNat 32 k.val).toInt = k.val := by rw [BitVec.toInt_ofNat']; have := k.isLt; simp [Int.bmod]; omega
    simp [BitVec.slt, hj, hk]
  rw [e1]
  by_cases h : k.val < j.val
  · rw [if_pos h, decide_eq_true h]
    exact uitofp_bit_one
  · rw [if_neg h, decide_eq_false h]
    exact uitofp_bit_zero

/-- The rounding-down quotient by sixteen as it is computed on words, for every position below 128. -/
theorem quotient_by_sixteen : ∀ s : Fin 128, Scalar.select
      (IntOp.andi
        (IntOp.cmpi CmpIPredicate.ne
          (if BitVec.ofNat 32 s.val = 0 then 0 else if (BitVec.ofNat 32 s.val).msb = true then -1 else 1)
          (if 16#32 = 0 then 0 else if (16#32).msb = true then -1 else (1 : BitVec 32)))
        (IntOp.cmpi CmpIPredicate.ne (IntOp.remsi ArithUnit.host (BitVec.ofNat 32 s.val) 16#32) 0#32))
      (IntOp.subi (IntOp.divsi ArithUnit.host (BitVec.ofNat 32 s.val) 16#32) 1#32)
      (IntOp.divsi ArithUnit.host (BitVec.ofNat 32 s.val) 16#32) =
    BitVec.ofNat 32 (s.val / 16) := by
  decide +kernel

/-- The mask that repeats one row of eight for the sixteen entries of its head. -/
theorem V_repeat (s : Fin 128) (h : Fin 8) : Gen.V m c main_v8 (ix2 s h) = if s.val / 16 = h.val then (1 : EReal) else 0 := by
  have e : Gen.V m c main_v8 = (uitofp .bf16 (cmpi .eq (Gen.V m c main_v6) (iotaInDim S128x8 32 1)) : FVec Ideal S128x8 .bf16) := by
    unfold Gen.V
    simp only [hostOps0, hostOps0_1, hostOps0_2, List.flatten_cons, List.flatten_nil, List.append_nil, List.cons_append, List.nil_append, TRef.binary, TRef.nullary, TRef.unary, TRef.ternary, TRef.toBuf, TRef.ofBuf, cast_eq]
    after_results_simp <;> rfl
  rw [e]
  have e6 : Gen.V m c main_v6 (ix2 s h) = BitVec.ofNat 32 (s.val / 16) := by
    unfold Gen.V
    simp only [hostOps0, hostOps0_1, hostOps0_2, List.flatten_cons, List.flatten_nil, List.append_nil, List.cons_append, List.nil_append, TRef.binary, TRef.nullary, TRef.unary, TRef.ternary, TRef.toBuf, TRef.ofBuf, cast_eq]
    after_results_simp
    pointwise []
    rw [show (id (constantI S_ 32 16#32) : IVec S_ 32) ix0 = 16#32 from rfl]
    exact quotient_by_sixteen s
  pointwise []
  rw [e6]
  have e1 : IntOp.cmpi CmpIPredicate.eq (BitVec.ofNat 32 (s.val / 16)) (BitVec.ofNat 32 h.val) = BitVec.ofBool (decide (s.val / 16 = h.val)) := by
    clear e6 e; revert s h; decide +kernel
  rw [e1]
  by_cases hs : s.val / 16 = h.val
  · rw [if_pos hs, decide_eq_true hs]
    exact uitofp_bit_one
  · rw [if_neg hs, decide_eq_false hs]
    exact uitofp_bit_zero

end Cert.KernelIdeal.HostArrays

end
-- ==== Proof.Points.lean ====
/- What each window's block holds at a point of the grid, as entries of the launched arrays. -/
module

public import proofs.«01_k».proof.Proof.HostArrays

@[expose] public section

set_option maxRecDepth 16384

noncomputable section

namespace Cert.KernelIdeal.Points

open Cert.KernelIdeal Cert.KernelIdeal.Gen Cert.KernelIdeal.HostArrays Idealize.ShloMosaic Idealize.ShloMosaic.TcCoe Idealize.SL.Sem

variable (m : (ℓ : Loc nD τ sig) → Buf (Elt Ideal) ℓ) (c : Dev nD)

/-- Which block of the log-decays a point reads: the pair's batch and group of heads, the later half first. -/
theorem index_logs : ∀ t : Fin cfg0.N, win0_0.index t (0 : Fin 3) = t.val / 8 ∧ win0_0.index t (1 : Fin 3) = t.val / 2 % 4
    ∧ win0_0.index t (2 : Fin 3) = 1 - t.val % 2 := by decide +kernel

/-- Which block of the inputs a point reads. -/
theorem index_inputs : ∀ t : Fin cfg0.N, win0_1.index t (0 : Fin 3) = t.val / 8 ∧ win0_1.index t (1 : Fin 3) = t.val / 2 % 4
    ∧ win0_1.index t (2 : Fin 3) = 1 - t.val % 2 := by decide +kernel

/-- Which block of the projections a point reads. -/
theorem index_proj : ∀ t : Fin cfg0.N, win0_2.index t (0 : Fin 3) = t.val / 8 ∧ win0_2.index t (1 : Fin 3) = t.val / 2 % 4
    ∧ win0_2.index t (2 : Fin 3) = 1 - t.val % 2 := by decide +kernel

/-- Both masks are read whole at every point. -/
theorem index_masks : ∀ t : Fin cfg0.N, win0_3.index t (0 : Fin 2) = 0 ∧ win0_3.index t (1 : Fin 2) = 0
    ∧ win0_4.index t (0 : Fin 2) = 0 ∧ win0_4.index t (1 : Fin 2) = 0 := by decide +kernel

/-- A point's batch. -/
def batch (t : Fin cfg0.N) : Fin 4 := ⟨t.val / 8, by have := t.isLt; have e : cfg0.N = 32 := N_0; omega⟩

/-- A point's head, of the eight it computes. -/
def head (t : Fin cfg0.N) (h : Fin 8) : Fin 32 := ⟨8 * (t.val / 2 % 4) + h.val, by omega⟩

/-- A point's position in the sequence. -/
def pos (t : Fin cfg0.N) (u : Fin 4096) : Fin 8192 := ⟨4096 * (1 - t.val % 2) + u.val, by omega⟩

/-- The block of log-decays. -/
theorem logs_apply (t : Fin cfg0.N) (h : Fin 8) (u : Fin 4096) : iblk m c 0 t (ix3 0 h u)
    = m ((c : Thread nD τ).loc main_arg1) (ix3 (batch t) (pos t u) (head t h)) := by
  obtain ⟨i0, i1, i2⟩ := index_logs t
  unfold iblk
  rw [View.read_apply]
  show Gen.V m c main_v13 _ = _
  rw [V_logs]
  refine (congrArg _ (show _ = ix3 (batch t) (head t h) (pos t u) from ?_)).trans ?_
  · funext a
    apply Fin.ext
    match a with
    | ⟨0, _⟩ => show win0_0.index t (0 : Fin 3) * 1 + 1 * 0 = t.val / 8; rw [i0]; omega
    | ⟨1, _⟩ => show win0_0.index t (1 : Fin 3) * 8 + 1 * h.val = 8 * (t.val / 2 % 4) + h.val; rw [i1]; omega
    | ⟨2, _⟩ => show win0_0.index t (2 : Fin 3) * 4096 + 1 * u.val = 4096 * (1 - t.val % 2) + u.val; rw [i2]; omega
  · pointwise []

/-- The block of inputs: row `64 h + p` is state row `p` of head `h`. -/
theorem inputs_apply (t : Fin cfg0.N) (h : Fin 8) (p : Fin 64) (r : Fin 512) (hr : r.val = 64 * h.val + p.val) (u : Fin 4096) :
    iblk m c 1 t (ix3 0 r u) = m ((c : Thread nD τ).loc main_arg0) (ix4 (batch t) (pos t u) (head t h) p) := by
  obtain ⟨i0, i1, i2⟩ := index_inputs t
  unfold iblk
  rw [View.read_apply]
  show Gen.V m c main_v10 _ = _
  rw [V_inputs]
  refine (congrArg _ (show _ = ix3 (batch t) (⟨512 * (t.val / 2 % 4) + r.val, by omega⟩ : Fin 2048) (pos t u) from ?_)).trans ?_
  · funext a
    apply Fin.ext
    match a with
    | ⟨0, _⟩ => show win0_1.index t (0 : Fin 3) * 1 + 1 * 0 = t.val / 8; rw [i0]; omega
    | ⟨1, _⟩ => show win0_1.index t (1 : Fin 3) * 512 + 1 * r.val = 512 * (t.val / 2 % 4) + r.val; rw [i1]; omega
    | ⟨2, _⟩ => show win0_1.index t (2 : Fin 3) * 4096 + 1 * u.val = 4096 * (1 - t.val % 2) + u.val; rw [i2]; omega
  · pointwise []
    exact congrArg₂ (fun a b => m ((c : Thread nD τ).loc main_arg0) (ix4 (batch t) (pos t u) a b))
      (Fin.ext (show (512 * (t.val / 2 % 4) + r.val) / 64 = 8 * (t.val / 2 % 4) + h.val by omega))
      (Fin.ext (show (512 * (t.val / 2 % 4) + r.val) % 64 = p.val by omega))

/-- The block of projections: row `16 h + n` is column `n` of head `h`. -/
theorem proj_apply (t : Fin cfg0.N) (h : Fin 8) (n : Fin 16) (s : Fin 128) (hs : s.val = 16 * h.val + n.val) (u : Fin 4096) :
    iblk m c 2 t (ix3 0 s u) = m ((c : Thread nD τ).loc main_arg2) (ix4 (batch t) (pos t u) (head t h) n) := by
  obtain ⟨i0, i1, i2⟩ := index_proj t
  unfold iblk
  rw [View.read_apply]
  show Gen.V m c main_v12 _ = _
  rw [V_proj]
  refine (congrArg _ (show _ = ix3 (batch t) (⟨128 * (t.val / 2 % 4) + s.val, by omega⟩ : Fin 512) (pos t u) from ?_)).trans ?_
  · funext a
    apply Fin.ext
    match a with
    | ⟨0, _⟩ => show win0_2.index t (0 : Fin 3) * 1 + 1 * 0 = t.val / 8; rw [i0]; omega
    | ⟨1, _⟩ => show win0_2.index t (1 : Fin 3) * 128 + 1 * s.val = 128 * (t.val / 2 % 4) + s.val; rw [i1]; omega
    | ⟨2, _⟩ => show win0_2.index t (2 : Fin 3) * 4096 + 1 * u.val = 4096 * (1 - t.val % 2) + u.val; rw [i2]; omega
  · pointwise []
    exact congrArg₂ (fun a b => m ((c : Thread nD τ).loc main_arg2) (ix4 (batch t) (pos t u) a b))
      (Fin.ext (show (128 * (t.val / 2 % 4) + s.val) / 16 = 8 * (t.val / 2 % 4) + h.val by omega))
      (Fin.ext (show (128 * (t.val / 2 % 4) + s.val) % 16 = n.val by omega))

/-- The mask that picks the positions after a given one, as a point reads it. -/
theorem mask_apply (t : Fin cfg0.N) (j k : Fin 256) : iblk m c 3 t (ix2 j k) = if k.val < j.val then (1 : EReal) else 0 := by
  obtain ⟨i0, i1, -, -⟩ := index_masks t
  unfold iblk
  rw [View.read_apply]
  show Gen.V m c main_v3 _ = _
  refine (congrArg _ (show _ = ix2 j k from ?_)).trans (V_mask m c j k)
  funext a
  apply Fin.ext
  match a with
  | ⟨0, _⟩ => show win0_3.index t (0 : Fin 2) * 256 + 1 * j.val = j.val; rw [i0]; omega
  | ⟨1, _⟩ => show win0_3.index t (1 : Fin 2) * 256 + 1 * k.val = k.val; rw [i1]; omega

/-- The mask that repeats one row of eight sixteen times, as a point reads it. -/
theorem repeat_apply (t : Fin cfg0.N) (s : Fin 128) (h : Fin 8) : iblk m c 4 t (ix2 s h) = if s.val / 16 = h.val then (1 : EReal) else 0 := by
  obtain ⟨-, -, i0, i1⟩ := index_masks t
  unfold iblk
  rw [View.read_apply]
  show Gen.V m c main_v8 _ = _
  refine (congrArg _ (show _ = ix2 s h from ?_)).trans (V_repeat m c s h)
  funext a
  apply Fin.ext
  match a with
  | ⟨0, _⟩ => show win0_4.index t (0 : Fin 2) * 128 + 1 * s.val = s.val; rw [i0]; omega
  | ⟨1, _⟩ => show win0_4.index t (1 : Fin 2) * 8 + 1 * h.val = h.val; rw [i1]; omega

end Cert.KernelIdeal.Points

end
-- ==== Proof.Opened.lean ====
/- What one grid point leaves in its output block and in the two buffers it carries, as the body's own named values. -/
module

public import proofs.«01_k».proof.Proof.Gen.KernelIdeal.Value
public import Idealize.ShloMosaic.Lib.Tactic
public import Idealize.ShloMosaic.Lib.Pointwise

@[expose] public section

set_option maxRecDepth 16384

noncomputable section

namespace Cert.KernelIdeal.Opened

open Cert.KernelIdeal Cert.KernelIdeal.Gen Idealize.ShloMosaic Idealize.ShloMosaic.TcCoe Idealize.SL.Sem

variable {F : FTy → Type} [FloatOps F]

/-- The running total after the first two of the sixteen chunks, last chunk first. -/
abbrev carry2 (x0 : Vec F S1x8x4096 .f32) (carry : Vec F S8x1 .f32) : FVec F S8x1 .f32 := k0_pay24 x0 carry

/-- The running total after the first fourteen of the sixteen chunks. -/
abbrev carry14 (x0 : Vec F S1x8x4096 .f32) (carry : Vec F S8x1 .f32) : FVec F S8x1 .f32 :=
  k0_pay49 (k0_pay20 x0) (carry2 x0 carry)

/-- The running total after fifteen chunks. -/
abbrev carry15 (x0 : Vec F S1x8x4096 .f32) (carry : Vec F S8x1 .f32) : FVec F S8x1 .f32 :=
  k0_pay2 (k0_pay20 x0) (carry14 x0 carry)

/-- The log-decay from each position of the block to the end of the sequence, given the carried total of what follows the block. -/
def restOf (x0 : Vec F S1x8x4096 .f32) (x3 : Vec F S256x256 .bf16) (carry : Vec F S8x1 .f32) : FVec F S8x4096 .f32 :=
  concatenate S8x4096 1 [⟨S8x256, k0_pay3 (k0_pay19 x0 x3) (carry15 x0 carry)⟩,
    ⟨S8x256, k0_pay1 (carry14 x0 carry) (k0_pay50 (k0_pay19 x0 x3))⟩,
    ⟨S8x256, k0_pay48 (k0_pay19 x0 x3) (k0_pay20 x0) (carry2 x0 carry)⟩,
    ⟨S8x256, k0_pay46 (k0_pay19 x0 x3) (k0_pay20 x0) (carry2 x0 carry)⟩,
    ⟨S8x256, k0_pay44 (k0_pay19 x0 x3) (k0_pay20 x0) (carry2 x0 carry)⟩,
    ⟨S8x256, k0_pay42 (k0_pay19 x0 x3) (k0_pay20 x0) (carry2 x0 carry)⟩,
    ⟨S8x256, k0_pay40 (k0_pay19 x0 x3) (k0_pay20 x0) (carry2 x0 carry)⟩,
    ⟨S8x256, k0_pay38 (k0_pay19 x0 x3) (k0_pay20 x0) (carry2 x0 carry)⟩,
    ⟨S8x256, k0_pay36 (k0_pay19 x0 x3) (k0_pay20 x0) (carry2 x0 carry)⟩,
    ⟨S8x256, k0_pay34 (k0_pay19 x0 x3) (k0_pay20 x0) (carry2 x0 carry)⟩,
    ⟨S8x256, k0_pay32 (k0_pay19 x0 x3) (k0_pay20 x0) (carry2 x0 carry)⟩,
    ⟨S8x256, k0_pay30 (k0_pay19 x0 x3) (k0_pay20 x0) (carry2 x0 carry)⟩,
    ⟨S8x256, k0_pay28 (k0_pay19 x0 x3) (k0_pay20 x0) (carry2 x0 carry)⟩,
    ⟨S8x256, k0_pay26 (carry2 x0 carry) (k0_pay25 x0 x3)⟩,
    ⟨S8x256, k0_pay23 x0 x3 carry⟩, ⟨S8x256, k0_pay21 x0 x3 carry⟩]
    concatenates_S8x256_S8x256_S8x256_S8x256_S8x256_S8x256_S8x256_S8x256_S8x256_S8x256_S8x256_S8x256_S8x256_S8x256_S8x256_S8x256_S8x4096_d1

/-- The carried total after the block: what it was and the sum of the whole block. -/
def carryOf (x0 : Vec F S1x8x4096 .f32) (carry : Vec F S8x1 .f32) : Vec F S8x1 .f32 :=
  k0_pay4 (k0_pay20 x0) (carry15 x0 carry)

/-- One block's contribution to the state matrix of the eight heads. -/
def stateOf (x0 : Vec F S1x8x4096 .f32) (x1 : Vec F S1x512x4096 .f32) (x2 : Vec F S1x128x4096 .f32) (x3 : Vec F S256x256 .bf16)
    (x4 : Vec F S128x8 .bf16) (carry : Vec F S8x1 .f32) : FVec F S512x128 .f32 :=
  k0_pay5 (restOf x0 x3 carry) x4 x1 x2

/-- Two zero offsets, as the zero function. -/
theorem hz2 : (![0, 0] : Fin 2 → Nat) = fun _ => 0 := funext fun a => by fin_cases a <;> rfl

/-- Three zero offsets, as the zero function. -/
theorem hz3 : (![0, 0, 0] : Fin 3 → Nat) = fun _ => 0 := funext fun a => by fin_cases a <;> rfl

/-- The position of the accumulated state that one entry of the output block shows: of head `y 1` the diagonal block. -/
def diag (y : S1x8x64x16.Idx) : S512x128.Idx :=
  ix2 ⟨64 * (y 1).val + (y 2).val, by have h1 : (y 1).val < 8 := (y 1).isLt; have h2 : (y 2).val < 64 := (y 2).isLt; omega⟩
    ⟨16 * (y 1).val + (y 3).val, by have h1 : (y 1).val < 8 := (y 1).isLt; have h3 : (y 3).val < 16 := (y 3).isLt; omega⟩

/-- Every one of the eight stored blocks is the diagonal block of its head. -/
theorem pieces_diag (acc : FVec F S512x128 .f32) : ∀ p ∈ ([
      ⟨Rect.unit ![0, 7, 0, 0] ![1, 1, 64, 16] inb_S1x8x64x16_S1x1x64x16_0_7_0_0, k0_pay9 acc⟩,
      ⟨Rect.unit ![0, 6, 0, 0] ![1, 1, 64, 16] inb_S1x8x64x16_S1x1x64x16_0_6_0_0, k0_pay8 (k0_pay16 acc)⟩,
      ⟨Rect.unit ![0, 5, 0, 0] ![1, 1, 64, 16] inb_S1x8x64x16_S1x1x64x16_0_5_0_0, k0_pay15 acc⟩,
      ⟨Rect.unit ![0, 4, 0, 0] ![1, 1, 64, 16] inb_S1x8x64x16_S1x1x64x16_0_4_0_0, k0_pay14 acc⟩,
      ⟨Rect.unit ![0, 3, 0, 0] ![1, 1, 64, 16] inb_S1x8x64x16_S1x1x64x16_0_3_0_0, k0_pay13 acc⟩,
      ⟨Rect.unit ![0, 2, 0, 0] ![1, 1, 64, 16] inb_S1x8x64x16_S1x1x64x16_0_2_0_0, k0_pay12 acc⟩,
      ⟨Rect.unit ![0, 1, 0, 0] ![1, 1, 64, 16] inb_S1x8x64x16_S1x1x64x16_0_1_0_0, k0_pay11 acc⟩,
      ⟨Rect.unit ![0, 0, 0, 0] ![1, 1, 64, 16] inb_S1x8x64x16_S1x1x64x16_0_0_0_0, k0_pay10 acc⟩] : List (View.Piece (Elt F) S1x8x64x16 .f32)), ∀ x : p.1.shape.Idx, p.2 x = acc (diag (p.1.emb x)) := by
  simp only [List.forall_mem_cons, List.not_mem_nil, false_implies, implies_true, and_true]
  refine ⟨fun x => ?_, fun x => ?_, fun x => ?_, fun x => ?_, fun x => ?_, fun x => ?_, fun x => ?_, fun x => ?_⟩
  all_goals
    pointwise [k0_pay8, k0_pay9, k0_pay10, k0_pay11, k0_pay12, k0_pay13, k0_pay14, k0_pay15, k0_pay16]
  all_goals
    refine congrArg acc (funext fun a => Fin.ext ?_)
    have h1 : (x 1).val < 1 := (x 1).isLt
    match a with
    | 0 => simp [diag, ix2, Rect.emb_apply]; omega
    | 1 => simp [diag, ix2, Rect.emb_apply]; omega

section CaseA
variable (c : Dev nD) (i : grid0.Coords) (arg2 : Memref sig .tc .vmem S1x8x4096 .f32) (harg2 : arg2.IsWhole) (arg3 : Memref sig .tc .vmem S1x512x4096 .f32) (harg3 : arg3.IsWhole) (arg4 : Memref sig .tc .vmem S1x128x4096 .f32) (harg4 : arg4.IsWhole) (arg5 : Memref sig .tc .vmem S256x256 .bf16) (harg5 : arg5.IsWhole) (arg6 : Memref sig .tc .vmem S128x8 .bf16) (harg6 : arg6.IsWhole) (arg7 : Memref sig .tc .vmem S1x8x64x16 .f32) (harg7 : arg7.IsWhole) (arg8 : Memref sig .tc .vmem S8x1 .f32) (harg8 : arg8.IsWhole) (arg9 : Memref sig .tc .vmem S512x128 .f32) (harg9 : arg9.IsWhole) (hc0 : cond0_0 i) (hc1 : cond0_1 i) (hc2 : ¬cond0_2 i) (hc3 : ¬cond0_3 i)
  (x0 : Vec F S1x8x4096 .f32) (x1 : Vec F S1x512x4096 .f32) (x2 : Vec F S1x128x4096 .f32) (x3 : Vec F S256x256 .bf16) (x4 : Vec F S128x8 .bf16)

/-- The first of a pair of points leaves, as carried total, the sum of its block over the zero it starts from. -/
theorem carry_A : sout0_A_0 c i arg2 harg2 arg3 harg3 arg4 harg4 arg5 harg5 arg6 harg6 arg7 harg7 arg8 harg8 arg9 harg9 hc0 hc1 hc2 hc3 x0 x1 x2 x3 x4
    = carryOf x0 k0_pay17 := by
  unfold sout0_A_0
  rw [View.read_writes_eq_canon _ _ _ (scover0_A_0 c i arg2 harg2 arg3 harg3 arg4 harg4 arg5 harg5 arg6 harg6 arg7 harg7 arg8 harg8 arg9 harg9 hc0 hc1 hc2 hc3 x0 x1 x2 x3 x4)]
  unfold kernelRun0_A
  dsimp only
  sl_unfold_words
  simp only [View.canon_cons_unit_zero (S := S8x1) hz2, View.readAt_eq_ld, harg2.read_unread, View.ld_unit_zero (S := S1x8x4096) hz3,
    View.readCov_unit_zero (S := S8x1) _ hz2]
  rfl

/-- The first of a pair of points leaves, as accumulated state, its block's contribution alone. -/
theorem state_A : sout0_A_1 c i arg2 harg2 arg3 harg3 arg4 harg4 arg5 harg5 arg6 harg6 arg7 harg7 arg8 harg8 arg9 harg9 hc0 hc1 hc2 hc3 x0 x1 x2 x3 x4
    = k0_pay6 (stateOf x0 x1 x2 x3 x4 k0_pay17) := by
  unfold sout0_A_1
  rw [View.read_writes_eq_canon _ _ _ (scover0_A_1 c i arg2 harg2 arg3 harg3 arg4 harg4 arg5 harg5 arg6 harg6 arg7 harg7 arg8 harg8 arg9 harg9 hc0 hc1 hc2 hc3 x0 x1 x2 x3 x4)]
  unfold kernelRun0_A
  dsimp only
  sl_unfold_words
  have e0 : View.ld (arg2.view.read (Elt F) (harg2.unread x0)) (Rect.unit (s := S1x8x4096) ![0, 0, 0] ![1, 8, 4096] inb_S1x8x4096_S1x8x4096_0_0_0) = x0 := by
    rw [harg2.read_unread]; exact View.ld_unit_zero hz3 _ x0
  have e1 : View.ld (arg3.view.read (Elt F) (harg3.unread x1)) (Rect.unit (s := S1x512x4096) ![0, 0, 0] ![1, 512, 4096] inb_S1x512x4096_S1x512x4096_0_0_0) = x1 := by
    rw [harg3.read_unread]; exact View.ld_unit_zero hz3 _ x1
  have e2 : View.ld (arg4.view.read (Elt F) (harg4.unread x2)) (Rect.unit (s := S1x128x4096) ![0, 0, 0] ![1, 128, 4096] inb_S1x128x4096_S1x128x4096_0_0_0) = x2 := by
    rw [harg4.read_unread]; exact View.ld_unit_zero hz3 _ x2
  have e3 : View.ld (arg5.view.read (Elt F) (harg5.unread x3)) (Rect.unit (s := S256x256) ![0, 0] ![256, 256] inb_S256x256_S256x256_0_0) = x3 := by
    rw [harg5.read_unread]; exact View.ld_unit_zero hz2 _ x3
  have e4 : View.ld (arg6.view.read (Elt F) (harg6.unread x4)) (Rect.unit (s := S128x8) ![0, 0] ![128, 8] inb_S128x8_S128x8_0_0) = x4 := by
    rw [harg6.read_unread]; exact View.ld_unit_zero hz2 _ x4
  simp only [View.canon_cons_unit_zero (S := S8x1) hz2, View.canon_cons_unit_zero (S := S512x128) hz2, View.readAt_eq_ld]
  rw [e0, e1, e2, e3, e4]
  rw [View.readCov_unit_zero (S := S8x1) _ hz2]
  rfl

end CaseA

section CaseB
variable (c : Dev nD) (i : grid0.Coords) (arg2 : Memref sig .tc .vmem S1x8x4096 .f32) (harg2 : arg2.IsWhole) (arg3 : Memref sig .tc .vmem S1x512x4096 .f32) (harg3 : arg3.IsWhole) (arg4 : Memref sig .tc .vmem S1x128x4096 .f32) (harg4 : arg4.IsWhole) (arg5 : Memref sig .tc .vmem S256x256 .bf16) (harg5 : arg5.IsWhole) (arg6 : Memref sig .tc .vmem S128x8 .bf16) (harg6 : arg6.IsWhole) (arg7 : Memref sig .tc .vmem S1x8x64x16 .f32) (harg7 : arg7.IsWhole) (arg8 : Memref sig .tc .vmem S8x1 .f32) (harg8 : arg8.IsWhole) (arg9 : Memref sig .tc .vmem S512x128 .f32) (harg9 : arg9.IsWhole) (hc0 : ¬cond0_0 i) (hc1 : ¬cond0_1 i) (hc2 : cond0_2 i) (hc3 : cond0_3 i)
  (x0 : Vec F S1x8x4096 .f32) (x1 : Vec F S1x512x4096 .f32) (x2 : Vec F S1x128x4096 .f32) (x3 : Vec F S256x256 .bf16) (x4 : Vec F S128x8 .bf16) (xs0 : Vec F S8x1 .f32) (xs1 : Vec F S512x128 .f32)

/-- The second of a pair of points adds the sum of its block to the carried total. -/
theorem carry_B : sout0_B_0 c i arg2 harg2 arg3 harg3 arg4 harg4 arg5 harg5 arg6 harg6 arg7 harg7 arg8 harg8 arg9 harg9 hc0 hc1 hc2 hc3 x0 x1 x2 x3 x4 xs0 xs1
    = carryOf x0 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 hc2 hc3 x0 x1 x2 x3 x4 xs0 xs1)]
  unfold kernelRun0_B
  dsimp only
  sl_unfold_words
  simp only [View.canon_cons_unit_zero (S := S8x1) hz2, View.canon_cons_unit_zero (S := S512x128) hz2, View.readAt_eq_ld, harg2.read_unread, harg3.read_unread, harg4.read_unread,
    harg5.read_unread, harg6.read_unread, harg8.read_unread, harg9.read_unread, View.ld_unit_zero (S := S1x8x4096) hz3, View.ld_unit_zero (S := S1x512x4096) hz3, View.ld_unit_zero (S := S1x128x4096) hz3,
    View.ld_unit_zero (S := S256x256) hz2, View.ld_unit_zero (S := S128x8) hz2, View.ld_unit_zero (S := S8x1) hz2, View.ld_unit_zero (S := S512x128) hz2,
    View.readCov_unit_zero (S := S8x1) _ hz2, View.readCov_unit_zero (S := S512x128) _ hz2]
  rfl

/-- The accumulated state after the second of a pair of points: the first's and this block's contribution. -/
theorem state_B : sout0_B_1 c i arg2 harg2 arg3 harg3 arg4 harg4 arg5 harg5 arg6 harg6 arg7 harg7 arg8 harg8 arg9 harg9 hc0 hc1 hc2 hc3 x0 x1 x2 x3 x4 xs0 xs1
    = k0_pay7 (stateOf x0 x1 x2 x3 x4 xs0) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 hc2 hc3 x0 x1 x2 x3 x4 xs0 xs1)]
  unfold kernelRun0_B
  dsimp only
  sl_unfold_words
  have e0 : View.ld (arg2.view.read (Elt F) (harg2.unread x0)) (Rect.unit (s := S1x8x4096) ![0, 0, 0] ![1, 8, 4096] inb_S1x8x4096_S1x8x4096_0_0_0) = x0 := by
    rw [harg2.read_unread]; exact View.ld_unit_zero hz3 _ x0
  have e1 : View.ld (arg3.view.read (Elt F) (harg3.unread x1)) (Rect.unit (s := S1x512x4096) ![0, 0, 0] ![1, 512, 4096] inb_S1x512x4096_S1x512x4096_0_0_0) = x1 := by
    rw [harg3.read_unread]; exact View.ld_unit_zero hz3 _ x1
  have e2 : View.ld (arg4.view.read (Elt F) (harg4.unread x2)) (Rect.unit (s := S1x128x4096) ![0, 0, 0] ![1, 128, 4096] inb_S1x128x4096_S1x128x4096_0_0_0) = x2 := by
    rw [harg4.read_unread]; exact View.ld_unit_zero hz3 _ x2
  have e3 : View.ld (arg5.view.read (Elt F) (harg5.unread x3)) (Rect.unit (s := S256x256) ![0, 0] ![256, 256] inb_S256x256_S256x256_0_0) = x3 := by
    rw [harg5.read_unread]; exact View.ld_unit_zero hz2 _ x3
  have e4 : View.ld (arg6.view.read (Elt F) (harg6.unread x4)) (Rect.unit (s := S128x8) ![0, 0] ![128, 8] inb_S128x8_S128x8_0_0) = x4 := by
    rw [harg6.read_unread]; exact View.ld_unit_zero hz2 _ x4
  have e5 : View.ld (arg8.view.read (Elt F) (harg8.unread xs0)) (Rect.unit (s := S8x1) ![0, 0] ![8, 1] inb_S8x1_S8x1_0_0) = xs0 := by
    rw [harg8.read_unread]; exact View.ld_unit_zero hz2 _ xs0
  have e6 : View.ld (arg9.view.read (Elt F) (harg9.unread xs1)) (Rect.unit (s := S512x128) ![0, 0] ![512, 128] inb_S512x128_S512x128_0_0) = xs1 := by
    rw [harg9.read_unread]; exact View.ld_unit_zero hz2 _ xs1
  simp only [View.canon_cons_unit_zero (S := S8x1) hz2, View.canon_cons_unit_zero (S := S512x128) hz2, View.readAt_eq_ld]
  rw [e0, e1, e2, e3, e4, e5, e6]
  rfl

/-- The output block the second of a pair of points leaves: the diagonal blocks of the accumulated state. -/
theorem out_B (y : S1x8x64x16.Idx) : out0_B_5 c i arg2 harg2 arg3 harg3 arg4 harg4 arg5 harg5 arg6 harg6 arg7 harg7 arg8 harg8 arg9 harg9 hc0 hc1 hc2 hc3 x0 x1 x2 x3 x4 xs0 xs1 y
    = k0_pay7 (stateOf x0 x1 x2 x3 x4 xs0) xs1 (diag y) := by
  unfold out0_B_5
  rw [View.read_writes_eq_canon _ _ _ (cover0_B_5 c i arg2 harg2 arg3 harg3 arg4 harg4 arg5 harg5 arg6 harg6 arg7 harg7 arg8 harg8 arg9 harg9 hc0 hc1 hc2 hc3 x0 x1 x2 x3 x4 xs0 xs1)]
  refine View.canon_apply_of_pieces (fun y => k0_pay7 (stateOf x0 x1 x2 x3 x4 xs0) xs1 (diag y)) _ ?_ y
    (cover0_B_5 c i arg2 harg2 arg3 harg3 arg4 harg4 arg5 harg5 arg6 harg6 arg7 harg7 arg8 harg8 arg9 harg9 hc0 hc1 hc2 hc3 x0 x1 x2 x3 x4 xs0 xs1 y)
  unfold kernelRun0_B
  dsimp only
  sl_unfold_words
  have e0 : View.ld (arg2.view.read (Elt F) (harg2.unread x0)) (Rect.unit (s := S1x8x4096) ![0, 0, 0] ![1, 8, 4096] inb_S1x8x4096_S1x8x4096_0_0_0) = x0 := by
    rw [harg2.read_unread]; exact View.ld_unit_zero hz3 _ x0
  have e1 : View.ld (arg3.view.read (Elt F) (harg3.unread x1)) (Rect.unit (s := S1x512x4096) ![0, 0, 0] ![1, 512, 4096] inb_S1x512x4096_S1x512x4096_0_0_0) = x1 := by
    rw [harg3.read_unread]; exact View.ld_unit_zero hz3 _ x1
  have e2 : View.ld (arg4.view.read (Elt F) (harg4.unread x2)) (Rect.unit (s := S1x128x4096) ![0, 0, 0] ![1, 128, 4096] inb_S1x128x4096_S1x128x4096_0_0_0) = x2 := by
    rw [harg4.read_unread]; exact View.ld_unit_zero hz3 _ x2
  have e3 : View.ld (arg5.view.read (Elt F) (harg5.unread x3)) (Rect.unit (s := S256x256) ![0, 0] ![256, 256] inb_S256x256_S256x256_0_0) = x3 := by
    rw [harg5.read_unread]; exact View.ld_unit_zero hz2 _ x3
  have e4 : View.ld (arg6.view.read (Elt F) (harg6.unread x4)) (Rect.unit (s := S128x8) ![0, 0] ![128, 8] inb_S128x8_S128x8_0_0) = x4 := by
    rw [harg6.read_unread]; exact View.ld_unit_zero hz2 _ x4
  have e5 : View.ld (arg8.view.read (Elt F) (harg8.unread xs0)) (Rect.unit (s := S8x1) ![0, 0] ![8, 1] inb_S8x1_S8x1_0_0) = xs0 := by
    rw [harg8.read_unread]; exact View.ld_unit_zero hz2 _ xs0
  have e6 : View.ld (arg9.view.read (Elt F) (harg9.unread xs1)) (Rect.unit (s := S512x128) ![0, 0] ![512, 128] inb_S512x128_S512x128_0_0) = xs1 := by
    rw [harg9.read_unread]; exact View.ld_unit_zero hz2 _ xs1
  simp only [View.canon_cons_unit_zero (S := S8x1) hz2, View.canon_cons_unit_zero (S := S512x128) hz2, View.readAt_eq_ld]
  rw [e0, e1, e2, e3, e4, e5, e6]
  simp only [View.readCov_unit_zero (S := S512x128) _ hz2]
  exact pieces_diag (k0_pay7 (stateOf x0 x1 x2 x3 x4 xs0) xs1)

end CaseB

end Cert.KernelIdeal.Opened

end
-- ==== Proof.Math.lean ====
/- Sums of extended reals: the parts of the argument that mention neither program. -/
module

public import Idealize.ShloMosaic.PureOps.Ideal.Laws

@[expose] public section

noncomputable section

namespace Cert.Decay

/-- A finite sum of real numbers is the same read among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite non-negative factor distributes over any sum of extended reals. -/
theorem sum_mul_real {ι : Type*} (s : Finset ι) (g : ι → EReal) (r : ℝ) (hr : 0 ≤ r) :
    (∑ i ∈ s, g i) * (r : EReal) = ∑ i ∈ s, g i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- A sum over `n * m` positions taken block by block, `m` positions to a block. -/
theorem sum_blocks {M : Type*} [AddCommMonoid M] (g : ℕ → M) (n m : ℕ) :
    ∑ c ∈ Finset.range n, ∑ l ∈ Finset.range m, g (c * m + l) = ∑ t ∈ Finset.range (n * m), g t := by
  induction n with
  | zero => simp
  | succ n ih => rw [Finset.sum_range_succ, ih, Nat.succ_mul, Finset.sum_range_add]

/-- The tail of a sum from `a` is the part up to `b` and the tail from `b`. -/
theorem tail_split (f : ℕ → ℝ) {a b n : ℕ} (hab : a ≤ b) (hbn : b ≤ n) :
    ∑ t ∈ Finset.Ico a b, f t + ∑ t ∈ Finset.Ico b n, f t = ∑ t ∈ Finset.Ico a n, f t :=
  Finset.sum_Ico_consecutive f hab hbn

/-- The sum of one block of `m` positions starting at `a`. -/
theorem block_sum (f : ℕ → ℝ) (a m : ℕ) : ∑ j ∈ Finset.range m, f (a + j) = ∑ t ∈ Finset.Ico a (a + m), f t := by
  rw [Finset.sum_Ico_eq_sum_range, Nat.add_sub_cancel_left]

/-- The entries of a block that come strictly after its entry `k`, picked by a test on the position. -/
theorem block_after (f : ℕ → ℝ) (a m k : ℕ) (hk : k < m) :
    ∑ j ∈ Finset.range m, (if k < j then f (a + j) else 0) = ∑ t ∈ Finset.Ico (a + k + 1) (a + m), f t := by
  rw [← Finset.sum_filter]
  have : Finset.filter (fun j => k < j) (Finset.range m) = Finset.Ico (k + 1) m := by
    ext j; simp only [Finset.mem_filter, Finset.mem_range, Finset.mem_Ico]; omega
  rw [this, Finset.sum_Ico_eq_sum_range, Finset.sum_Ico_eq_sum_range, show m - (k + 1) = a + m - (a + k + 1) by omega]
  refine Finset.sum_congr rfl fun i _ => ?_
  congr 1
  omega

/-- Folding `+` over a list of all the indices is the starting value plus the sum. -/
theorem foldl_add_eq_sum (n : ℕ) (g : Fin n → EReal) (v : EReal) :
    (List.finRange n).foldl (fun r i => r + g i) v = v + ∑ i, g i := by
  rw [Fin.sum_univ_def, ← List.foldl_map (f := g) (g := fun r x => r + x)]
  generalize (List.finRange n).map g = l
  induction l generalizing v with
  | nil => simp
  | cons x l ih => rw [List.foldl_cons, ih, List.sum_cons, add_assoc]

/-- The sum over a window of `k + 1` positions ending at `j`, those before the first entry counting zero, is the sum of
    the first `j + 1` entries. -/
theorem window_sum (f : ℕ → ℝ) (k j : ℕ) (hj : j ≤ k) :
    ∑ n ∈ Finset.range (k + 1), (if k ≤ j + n then f (j + n - k) else 0) = ∑ i ∈ Finset.range (j + 1), f i := by
  obtain ⟨d, rfl⟩ : ∃ d, k = j + d := ⟨k - j, by omega⟩
  rw [show j + d + 1 = d + (j + 1) by omega, Finset.sum_range_add, Finset.sum_eq_zero, zero_add]
  · refine Finset.sum_congr rfl fun i _ => ?_
    rw [if_pos (by omega)]
    congr 1
    omega
  · intro i hi
    rw [if_neg (by have := Finset.mem_range.mp hi; omega)]

end Cert.Decay

end
-- ==== Proof.Body.lean ====
/- What one block of the sequence computes, among the extended reals: the log-decay from each position to the end of the
sequence and the total carried to the block before it. -/
module

public import Idealize.ShloMosaic.Lib.Pointwise
public import proofs.«01_k».proof.Proof.Opened
public import proofs.«01_k».proof.Proof.Math

@[expose] public section

set_option maxRecDepth 16384

noncomputable section

namespace Cert.KernelIdeal.Body

open Cert.KernelIdeal Cert.KernelIdeal.Gen Cert.KernelIdeal.Opened Cert.Decay Idealize.ShloMosaic

/-- Row `8 c + h` of the stacked chunks is chunk `c` of head `h`. -/
theorem stacked (x0 : Vec Ideal S1x8x4096 .f32) (c : Fin 16) (h : Fin 8) (k : Fin 256) :
    k0_pay18 x0 (ix2 ⟨8 * c.val + h.val, by omega⟩ k) = x0 (ix3 0 h ⟨256 * c.val + k.val, by omega⟩) := by
  have hs : ∀ c : Fin 16, S8x4096.Slices ![0, 256 * c.val] S8x256 := by decide
  have key := concatenate_ofFn_apply (s₁ := S8x256) (t := S128x256) 0
    (fun c : Fin 16 => extractStridedSlice S8x256 ![0, 256 * c.val] (shapeCast S8x4096 x0 shapeCasts_S1x8x4096_S8x4096) (hs c))
    concatenates_S8x256_S8x256_S8x256_S8x256_S8x256_S8x256_S8x256_S8x256_S8x256_S8x256_S8x256_S8x256_S8x256_S8x256_S8x256_S8x256_S128x256_d0 rfl 8 rfl
    (ix2 ⟨8 * c.val + h.val, by omega⟩ k) c (by show (8 * c.val + h.val) / 8 = c.val; omega) (ix2 h k)
    (by show h.val = (8 * c.val + h.val) % 8; omega)
    (by intro b hb; match b with | 0 => exact absurd rfl hb | 1 => rfl)
  refine (show k0_pay18 x0 _ = _ from key).trans ?_
  pointwise []

/-- One step of the running total, from chunk `c + 1` to chunk `c`. -/
theorem carry_step (f : Fin 8 → ℕ → ℝ) (o E : ℕ) (hE : o + 4096 ≤ E) (T : FVec Ideal S128x1 .f32)
    (hT : ∀ (c : Fin 16) (h : Fin 8), T (ix2 ⟨8 * c.val + h.val, by omega⟩ 0)
      = ((∑ t ∈ Finset.Ico (o + 256 * c.val) (o + 256 * (c.val + 1)), f h t : ℝ) : EReal))
    (c : Fin 16) (n : ℕ) (hn : n = 8 * c.val) (hs : S128x1.Slices ![n, 0] S8x1) (v : FVec Ideal S8x1 .f32)
    (hv : ∀ h, v (ix2 h 0) = ((∑ t ∈ Finset.Ico (o + 256 * (c.val + 1)) E, f h t : ℝ) : EReal)) (h : Fin 8) :
    addf v (extractStridedSlice S8x1 ![n, 0] T hs) (ix2 h 0)
      = ((∑ t ∈ Finset.Ico (o + 256 * c.val) E, f h t : ℝ) : EReal) := by
  subst hn
  pointwise []
  rw [hv, hT, ← EReal.coe_add, add_comm, tail_split (f h) (by omega) (by omega)]

/-- The log-decay of one chunk: what lies after the position within the chunk, and the running total of what follows it. -/
theorem rest_step (f : Fin 8 → ℕ → ℝ) (o E : ℕ) (hE : o + 4096 ≤ E) (P : FVec Ideal S128x256 .f32)
    (hP : ∀ (c : Fin 16) (h : Fin 8) (k : Fin 256), P (ix2 ⟨8 * c.val + h.val, by omega⟩ k)
      = ((∑ t ∈ Finset.Ico (o + 256 * c.val + k.val + 1) (o + 256 * (c.val + 1)), f h t : ℝ) : EReal))
    (c : Fin 16) (n : ℕ) (hn : n = 8 * c.val) (hs : S128x256.Slices ![n, 0] S8x256) (v : FVec Ideal S8x1 .f32)
    (hv : ∀ h, v (ix2 h 0) = ((∑ t ∈ Finset.Ico (o + 256 * (c.val + 1)) E, f h t : ℝ) : EReal)) (h : Fin 8) (k : Fin 256) :
    addf (extractStridedSlice S8x256 ![n, 0] P hs) (broadcastTo S8x256 v broadcasts_S8x1_S8x256) (ix2 h k)
      = ((∑ t ∈ Finset.Ico (o + 256 * c.val + k.val + 1) E, f h t : ℝ) : EReal) := by
  subst hn
  pointwise []
  rw [hv, hP, ← EReal.coe_add, tail_split (f h) (by omega) (by omega)]

/-- The total of each chunk. -/
theorem totals (x0 : Vec Ideal S1x8x4096 .f32) (f : Fin 8 → ℕ → ℝ) (o : ℕ)
    (hx : ∀ (h : Fin 8) (u : Fin 4096), x0 (ix3 0 h u) = ((f h (o + u.val) : ℝ) : EReal)) (c : Fin 16) (h : Fin 8) :
    k0_pay20 x0 (ix2 ⟨8 * c.val + h.val, by omega⟩ 0)
      = ((∑ t ∈ Finset.Ico (o + 256 * c.val) (o + 256 * (c.val + 1)), f h t : ℝ) : EReal) := by
  pointwise [k0_pay20]
  simp only [stacked, hx]
  rw [← coe_sum, show o + 256 * (c.val + 1) = o + 256 * c.val + 256 by omega, ← block_sum,
    Finset.sum_range (fun j => f h (o + 256 * c.val + j))]
  simp only [add_assoc]

/-- The sum of what lies after a position within its chunk. -/
theorem inner (x0 : Vec Ideal S1x8x4096 .f32) (x3 : Vec Ideal S256x256 .bf16) (f : Fin 8 → ℕ → ℝ) (o : ℕ)
    (hx : ∀ (h : Fin 8) (u : Fin 4096), x0 (ix3 0 h u) = ((f h (o + u.val) : ℝ) : EReal))
    (hm : ∀ j k : Fin 256, x3 (ix2 j k) = if k.val < j.val then (1 : EReal) else 0) (c : Fin 16) (h : Fin 8) (k : Fin 256) :
    k0_pay19 x0 x3 (ix2 ⟨8 * c.val + h.val, by omega⟩ k)
      = ((∑ t ∈ Finset.Ico (o + 256 * c.val + k.val + 1) (o + 256 * (c.val + 1)), f h t : ℝ) : EReal) := by
  pointwise [k0_pay19]
  simp only [stacked, hx, hm]
  have e : ∀ j : Fin 256, ((f h (o + (256 * c.val + j.val)) : ℝ) : EReal) * (if k.val < j.val then (1 : EReal) else 0)
      = ((if k.val < j.val then f h (o + 256 * c.val + j.val) else 0 : ℝ) : EReal) := fun j => by
    split <;> simp [add_assoc]
  have z : ∀ j : Fin 256, ((f h (o + (256 * c.val + j.val)) : ℝ) : EReal) - ((f h (o + (256 * c.val + j.val)) : ℝ) : EReal) = 0 :=
    fun j => by rw [← EReal.coe_sub, sub_self, EReal.coe_zero]
  simp only [e, z, zero_mul, Finset.sum_const_zero, add_zero]
  rw [← coe_sum, show o + 256 * (c.val + 1) = o + 256 * c.val + 256 by omega, ← block_after _ _ _ _ k.isLt,
    Finset.sum_range (fun j => if k.val < j then f h (o + 256 * c.val + j) else 0)]

/-- The running total before each chunk, as the body names it. -/
def before (x0 : Vec Ideal S1x8x4096 .f32) (carry : Vec Ideal S8x1 .f32) : Fin 16 → FVec Ideal S8x1 .f32 :=
  ![carry15 x0 carry, k0_pay49 (k0_pay20 x0) (carry2 x0 carry), k0_pay47 (k0_pay20 x0) (carry2 x0 carry), k0_pay45 (k0_pay20 x0) (carry2 x0 carry), k0_pay43 (k0_pay20 x0) (carry2 x0 carry), k0_pay41 (k0_pay20 x0) (carry2 x0 carry), k0_pay39 (k0_pay20 x0) (carry2 x0 carry), k0_pay37 (k0_pay20 x0) (carry2 x0 carry), k0_pay35 (k0_pay20 x0) (carry2 x0 carry), k0_pay33 (k0_pay20 x0) (carry2 x0 carry), k0_pay31 (k0_pay20 x0) (carry2 x0 carry), k0_pay29 (k0_pay20 x0) (carry2 x0 carry), k0_pay27 (k0_pay20 x0) (carry2 x0 carry), k0_pay24 x0 carry, k0_pay22 x0 carry, carry]

/-- The running total before a chunk is the sum of the log-decays of everything after that chunk. -/
theorem before_apply (x0 : Vec Ideal S1x8x4096 .f32) (f : Fin 8 → ℕ → ℝ) (o E : ℕ) (hE : o + 4096 ≤ E)
    (hx : ∀ (h : Fin 8) (u : Fin 4096), x0 (ix3 0 h u) = ((f h (o + u.val) : ℝ) : EReal)) (carry : Vec Ideal S8x1 .f32)
    (hc : ∀ h, carry (ix2 h 0) = ((∑ t ∈ Finset.Ico (o + 4096) E, f h t : ℝ) : EReal)) (c : Fin 16) (h : Fin 8) :
    before x0 carry c (ix2 h 0) = ((∑ t ∈ Finset.Ico (o + 256 * (c.val + 1)) E, f h t : ℝ) : EReal) := by
  have s15 : ∀ h, k0_pay22 x0 carry (ix2 h 0) = ((∑ t ∈ Finset.Ico (o + 256 * 15) E, f h t : ℝ) : EReal) :=
    fun h => carry_step f o E hE _ (totals x0 f o hx) 15 120 rfl slices_S128x1_o120_0_S8x1 _ hc h
  have s14 : ∀ h, k0_pay24 x0 carry (ix2 h 0) = ((∑ t ∈ Finset.Ico (o + 256 * 14) E, f h t : ℝ) : EReal) :=
    fun h => carry_step f o E hE _ (totals x0 f o hx) 14 112 rfl slices_S128x1_o112_0_S8x1 _ s15 h
  have s13 : ∀ h, k0_pay27 (k0_pay20 x0) (carry2 x0 carry) (ix2 h 0) = ((∑ t ∈ Finset.Ico (o + 256 * 13) E, f h t : ℝ) : EReal) :=
    fun h => carry_step f o E hE _ (totals x0 f o hx) 13 104 rfl slices_S128x1_o104_0_S8x1 _ s14 h
  have s12 : ∀ h, k0_pay29 (k0_pay20 x0) (carry2 x0 carry) (ix2 h 0) = ((∑ t ∈ Finset.Ico (o + 256 * 12) E, f h t : ℝ) : EReal) :=
    fun h => carry_step f o E hE _ (totals x0 f o hx) 12 96 rfl slices_S128x1_o96_0_S8x1 _ s13 h
  have s11 : ∀ h, k0_pay31 (k0_pay20 x0) (carry2 x0 carry) (ix2 h 0) = ((∑ t ∈ Finset.Ico (o + 256 * 11) E, f h t : ℝ) : EReal) :=
    fun h => carry_step f o E hE _ (totals x0 f o hx) 11 88 rfl slices_S128x1_o88_0_S8x1 _ s12 h
  have s10 : ∀ h, k0_pay33 (k0_pay20 x0) (carry2 x0 carry) (ix2 h 0) = ((∑ t ∈ Finset.Ico (o + 256 * 10) E, f h t : ℝ) : EReal) :=
    fun h => carry_step f o E hE _ (totals x0 f o hx) 10 80 rfl slices_S128x1_o80_0_S8x1 _ s11 h
  have s9 : ∀ h, k0_pay35 (k0_pay20 x0) (carry2 x0 carry) (ix2 h 0) = ((∑ t ∈ Finset.Ico (o + 256 * 9) E, f h t : ℝ) : EReal) :=
    fun h => carry_step f o E hE _ (totals x0 f o hx) 9 72 rfl slices_S128x1_o72_0_S8x1 _ s10 h
  have s8 : ∀ h, k0_pay37 (k0_pay20 x0) (carry2 x0 carry) (ix2 h 0) = ((∑ t ∈ Finset.Ico (o + 256 * 8) E, f h t : ℝ) : EReal) :=
    fun h => carry_step f o E hE _ (totals x0 f o hx) 8 64 rfl slices_S128x1_o64_0_S8x1 _ s9 h
  have s7 : ∀ h, k0_pay39 (k0_pay20 x0) (carry2 x0 carry) (ix2 h 0) = ((∑ t ∈ Finset.Ico (o + 256 * 7) E, f h t : ℝ) : EReal) :=
    fun h => carry_step f o E hE _ (totals x0 f o hx) 7 56 rfl slices_S128x1_o56_0_S8x1 _ s8 h
  have s6 : ∀ h, k0_pay41 (k0_pay20 x0) (carry2 x0 carry) (ix2 h 0) = ((∑ t ∈ Finset.Ico (o + 256 * 6) E, f h t : ℝ) : EReal) :=
    fun h => carry_step f o E hE _ (totals x0 f o hx) 6 48 rfl slices_S128x1_o48_0_S8x1 _ s7 h
  have s5 : ∀ h, k0_pay43 (k0_pay20 x0) (carry2 x0 carry) (ix2 h 0) = ((∑ t ∈ Finset.Ico (o + 256 * 5) E, f h t : ℝ) : EReal) :=
    fun h => carry_step f o E hE _ (totals x0 f o hx) 5 40 rfl slices_S128x1_o40_0_S8x1 _ s6 h
  have s4 : ∀ h, k0_pay45 (k0_pay20 x0) (carry2 x0 carry) (ix2 h 0) = ((∑ t ∈ Finset.Ico (o + 256 * 4) E, f h t : ℝ) : EReal) :=
    fun h => carry_step f o E hE _ (totals x0 f o hx) 4 32 rfl slices_S128x1_o32_0_S8x1 _ s5 h
  have s3 : ∀ h, k0_pay47 (k0_pay20 x0) (carry2 x0 carry) (ix2 h 0) = ((∑ t ∈ Finset.Ico (o + 256 * 3) E, f h t : ℝ) : EReal) :=
    fun h => carry_step f o E hE _ (totals x0 f o hx) 3 24 rfl slices_S128x1_o24_0_S8x1 _ s4 h
  have s2 : ∀ h, k0_pay49 (k0_pay20 x0) (carry2 x0 carry) (ix2 h 0) = ((∑ t ∈ Finset.Ico (o + 256 * 2) E, f h t : ℝ) : EReal) :=
    fun h => carry_step f o E hE _ (totals x0 f o hx) 2 16 rfl slices_S128x1_o16_0_S8x1 _ s3 h
  have s1 : ∀ h, carry15 x0 carry (ix2 h 0) = ((∑ t ∈ Finset.Ico (o + 256 * 1) E, f h t : ℝ) : EReal) :=
    fun h => carry_step f o E hE _ (totals x0 f o hx) 1 8 rfl slices_S128x1_o8_0_S8x1 _ s2 h
  fin_cases c
  exacts [s1 h, s2 h, s3 h, s4 h, s5 h, s6 h, s7 h, s8 h, s9 h, s10 h, s11 h, s12 h, s13 h, s14 h, s15 h, hc h]

/-- The total carried to the block before: the sum of the log-decays from the start of this block to the end. -/
theorem carryOf_apply (x0 : Vec Ideal S1x8x4096 .f32) (f : Fin 8 → ℕ → ℝ) (o E : ℕ) (hE : o + 4096 ≤ E)
    (hx : ∀ (h : Fin 8) (u : Fin 4096), x0 (ix3 0 h u) = ((f h (o + u.val) : ℝ) : EReal)) (carry : Vec Ideal S8x1 .f32)
    (hc : ∀ h, carry (ix2 h 0) = ((∑ t ∈ Finset.Ico (o + 4096) E, f h t : ℝ) : EReal)) (h : Fin 8) :
    carryOf x0 carry (ix2 h 0) = ((∑ t ∈ Finset.Ico o E, f h t : ℝ) : EReal) := by
  have key := carry_step f o E hE _ (totals x0 f o hx) 0 0 rfl slices_S128x1_o0_0_S8x1 _
    (fun h => before_apply x0 f o E hE hx carry hc 0 h) h
  have e : carryOf x0 carry = addf (before x0 carry 0) (extractStridedSlice S8x1 ![0, 0] (k0_pay20 x0) slices_S128x1_o0_0_S8x1) := by
    unfold carryOf k0_pay4
    exact shapeCast_self _ _
  rw [e]
  simpa using key

/-- The log-decay of each chunk, as the body names it. -/
def pieces (x0 : Vec Ideal S1x8x4096 .f32) (x3 : Vec Ideal S256x256 .bf16) (carry : Vec Ideal S8x1 .f32) :
    Fin 16 → FVec Ideal S8x256 .f32 :=
  ![k0_pay3 (k0_pay19 x0 x3) (carry15 x0 carry),
    k0_pay1 (carry14 x0 carry) (k0_pay50 (k0_pay19 x0 x3)),
    k0_pay48 (k0_pay19 x0 x3) (k0_pay20 x0) (carry2 x0 carry),
    k0_pay46 (k0_pay19 x0 x3) (k0_pay20 x0) (carry2 x0 carry),
    k0_pay44 (k0_pay19 x0 x3) (k0_pay20 x0) (carry2 x0 carry),
    k0_pay42 (k0_pay19 x0 x3) (k0_pay20 x0) (carry2 x0 carry),
    k0_pay40 (k0_pay19 x0 x3) (k0_pay20 x0) (carry2 x0 carry),
    k0_pay38 (k0_pay19 x0 x3) (k0_pay20 x0) (carry2 x0 carry),
    k0_pay36 (k0_pay19 x0 x3) (k0_pay20 x0) (carry2 x0 carry),
    k0_pay34 (k0_pay19 x0 x3) (k0_pay20 x0) (carry2 x0 carry),
    k0_pay32 (k0_pay19 x0 x3) (k0_pay20 x0) (carry2 x0 carry),
    k0_pay30 (k0_pay19 x0 x3) (k0_pay20 x0) (carry2 x0 carry),
    k0_pay28 (k0_pay19 x0 x3) (k0_pay20 x0) (carry2 x0 carry),
    k0_pay26 (carry2 x0 carry) (k0_pay25 x0 x3),
    k0_pay23 x0 x3 carry,
    k0_pay21 x0 x3 carry]

/-- The log-decay from each position of the block to the end of the sequence. -/
theorem restOf_apply (x0 : Vec Ideal S1x8x4096 .f32) (x3 : Vec Ideal S256x256 .bf16) (f : Fin 8 → ℕ → ℝ) (o E : ℕ)
    (hE : o + 4096 ≤ E) (hx : ∀ (h : Fin 8) (u : Fin 4096), x0 (ix3 0 h u) = ((f h (o + u.val) : ℝ) : EReal))
    (hm : ∀ j k : Fin 256, x3 (ix2 j k) = if k.val < j.val then (1 : EReal) else 0) (carry : Vec Ideal S8x1 .f32)
    (hc : ∀ h, carry (ix2 h 0) = ((∑ t ∈ Finset.Ico (o + 4096) E, f h t : ℝ) : EReal)) (h : Fin 8) (u : Fin 4096) :
    restOf x0 x3 carry (ix2 h u) = ((∑ t ∈ Finset.Ico (o + u.val + 1) E, f h t : ℝ) : EReal) := by
  have hu : u.val / 256 < 16 := by have := u.isLt; omega
  have hk : u.val % 256 < 256 := Nat.mod_lt _ (by omega)
  have key := concatenate_ofFn_apply (s₁ := S8x256) (t := S8x4096) 1 (pieces x0 x3 carry)
    concatenates_S8x256_S8x256_S8x256_S8x256_S8x256_S8x256_S8x256_S8x256_S8x256_S8x256_S8x256_S8x256_S8x256_S8x256_S8x256_S8x256_S8x4096_d1 rfl 256 rfl
    (ix2 h u) ⟨u.val / 256, hu⟩ rfl (ix2 h ⟨u.val % 256, hk⟩) rfl
    (by intro b hb; match b with | 0 => rfl | 1 => exact absurd rfl hb)
  refine (show restOf x0 x3 carry _ = _ from key).trans ?_
  have all : ∀ (c : Fin 16) (k : Fin 256), pieces x0 x3 carry c (ix2 h k)
      = ((∑ t ∈ Finset.Ico (o + 256 * c.val + k.val + 1) E, f h t : ℝ) : EReal) := by
    intro c k
    have hb := before_apply x0 f o E hE hx carry hc
    have hP := inner x0 x3 f o hx hm
    fin_cases c
    exacts [rest_step f o E hE _ hP 0 0 rfl slices_S128x256_o0_0_S8x256 _ (hb 0) h k,
      rest_step f o E hE _ hP 1 8 rfl slices_S128x256_o8_0_S8x256 _ (hb 1) h k,
      rest_step f o E hE _ hP 2 16 rfl slices_S128x256_o16_0_S8x256 _ (hb 2) h k,
      rest_step f o E hE _ hP 3 24 rfl slices_S128x256_o24_0_S8x256 _ (hb 3) h k,
      rest_step f o E hE _ hP 4 32 rfl slices_S128x256_o32_0_S8x256 _ (hb 4) h k,
      rest_step f o E hE _ hP 5 40 rfl slices_S128x256_o40_0_S8x256 _ (hb 5) h k,
      rest_step f o E hE _ hP 6 48 rfl slices_S128x256_o48_0_S8x256 _ (hb 6) h k,
      rest_step f o E hE _ hP 7 56 rfl slices_S128x256_o56_0_S8x256 _ (hb 7) h k,
      rest_step f o E hE _ hP 8 64 rfl slices_S128x256_o64_0_S8x256 _ (hb 8) h k,
      rest_step f o E hE _ hP 9 72 rfl slices_S128x256_o72_0_S8x256 _ (hb 9) h k,
      rest_step f o E hE _ hP 10 80 rfl slices_S128x256_o80_0_S8x256 _ (hb 10) h k,
      rest_step f o E hE _ hP 11 88 rfl slices_S128x256_o88_0_S8x256 _ (hb 11) h k,
      rest_step f o E hE _ hP 12 96 rfl slices_S128x256_o96_0_S8x256 _ (hb 12) h k,
      rest_step f o E hE _ hP 13 104 rfl slices_S128x256_o104_0_S8x256 _ (hb 13) h k,
      rest_step f o E hE _ hP 14 112 rfl slices_S128x256_o112_0_S8x256 _ (hb 14) h k,
      rest_step f o E hE _ hP 15 120 rfl slices_S128x256_o120_0_S8x256 _ (hb 15) h k]
  rw [all, show o + 256 * (u.val / 256) + u.val % 256 + 1 = o + u.val + 1 by omega]

/-- One block's contribution to the state matrix: the states against the inputs scaled by their decay to the end. -/
theorem stateOf_apply (x0 : Vec Ideal S1x8x4096 .f32) (x1 : Vec Ideal S1x512x4096 .f32) (x2 : Vec Ideal S1x128x4096 .f32)
    (x3 : Vec Ideal S256x256 .bf16) (x4 : Vec Ideal S128x8 .bf16) (f : Fin 8 → ℕ → ℝ) (o E : ℕ) (hE : o + 4096 ≤ E)
    (hx : ∀ (h : Fin 8) (u : Fin 4096), x0 (ix3 0 h u) = ((f h (o + u.val) : ℝ) : EReal))
    (hm : ∀ j k : Fin 256, x3 (ix2 j k) = if k.val < j.val then (1 : EReal) else 0)
    (he : ∀ (s : Fin 128) (h : Fin 8), x4 (ix2 s h) = if s.val / 16 = h.val then (1 : EReal) else 0)
    (carry : Vec Ideal S8x1 .f32)
    (hc : ∀ h, carry (ix2 h 0) = ((∑ t ∈ Finset.Ico (o + 4096) E, f h t : ℝ) : EReal)) (r : Fin 512) (s : Fin 128) (h : Fin 8)
    (hh : s.val / 16 = h.val) :
    stateOf x0 x1 x2 x3 x4 carry (ix2 r s)
      = ∑ u : Fin 4096, x1 (ix3 0 r u) * (x2 (ix3 0 s u) * ((Real.exp (∑ t ∈ Finset.Ico (o + u.val + 1) E, f h t) : ℝ) : EReal)) := by
  pointwise [stateOf, k0_pay5]
  simp only [restOf_apply x0 x3 f o E hE hx hm carry hc, he]
  refine Finset.sum_congr rfl fun u _ => ?_
  rw [Finset.sum_eq_single h (fun b _ hb => by rw [if_neg (fun e => hb (Fin.ext (e.symm.trans hh))), zero_mul])
    (fun hn => absurd (Finset.mem_univ h) hn), if_pos hh, one_mul]
  rfl

end Cert.KernelIdeal.Body

end
-- ==== Proof.Spec.lean ====
/- The mathematics both programs compute, over the four coordinates of a result: batch, head, state row, projection column. -/
module

public import Idealize.ShloMosaic.PureOps.Ideal.Laws

@[expose] public section

noncomputable section

namespace Cert.Decay

/-- The log-decay of one head at a position, as a real number. -/
def logAt (A : Fin 4 → Fin 8192 → Fin 32 → EReal) (b : Fin 4) (h : Fin 32) (t : ℕ) : ℝ := (A b (Fin.ofNat 8192 t) h).toReal

/-- What one position adds to a result: its input, times its projection scaled by the decay from it to the end. -/
def term (X : Fin 4 → Fin 8192 → Fin 32 → Fin 64 → EReal) (A : Fin 4 → Fin 8192 → Fin 32 → EReal)
    (B : Fin 4 → Fin 8192 → Fin 32 → Fin 16 → EReal) (b : Fin 4) (h : Fin 32) (p : Fin 64) (n : Fin 16) (t : ℕ) : EReal :=
  X b (Fin.ofNat 8192 t) h p * (B b (Fin.ofNat 8192 t) h n * ((Real.exp (∑ i ∈ Finset.Ico (t + 1) 8192, logAt A b h i) : ℝ) : EReal))

/-- The final state of one head: the sum over every position. -/
def final (X : Fin 4 → Fin 8192 → Fin 32 → Fin 64 → EReal) (A : Fin 4 → Fin 8192 → Fin 32 → EReal)
    (B : Fin 4 → Fin 8192 → Fin 32 → Fin 16 → EReal) (b : Fin 4) (h : Fin 32) (p : Fin 64) (n : Fin 16) : EReal :=
  ∑ t ∈ Finset.range 8192, term X A B b h p n t

end Cert.Decay

end
-- ==== Proof.Kernel.lean ====
/- What the kernel leaves in its result array: the final state of every head. -/
module

public import proofs.«01_k».proof.Proof.Points
public import proofs.«01_k».proof.Proof.Body
public import proofs.«01_k».proof.Proof.Spec

@[expose] public section

set_option maxRecDepth 16384

noncomputable section

namespace Cert.KernelIdeal.Result

open Cert.KernelIdeal Cert.KernelIdeal.Gen Cert.KernelIdeal.Points Cert.KernelIdeal.Opened Cert.KernelIdeal.Body Cert.Decay
open Idealize.ShloMosaic Idealize.ShloMosaic.TcCoe Idealize.SL.Sem

variable (m : (ℓ : Loc nD τ sig) → Buf (Elt Ideal) ℓ) (c : Dev nD)

/-- The launched inputs, by batch, position, head and state row. -/
def inX (b : Fin 4) (t : Fin 8192) (h : Fin 32) (p : Fin 64) : EReal := m ((c : Thread nD τ).loc main_arg0) (ix4 b t h p)

/-- The launched log-decays, by batch, position and head. -/
def inA (b : Fin 4) (t : Fin 8192) (h : Fin 32) : EReal := m ((c : Thread nD τ).loc main_arg1) (ix3 b t h)

/-- The launched projections, by batch, position, head and column. -/
def inB (b : Fin 4) (t : Fin 8192) (h : Fin 32) (n : Fin 16) : EReal := m ((c : Thread nD τ).loc main_arg2) (ix4 b t h n)

/-- Every launched log-decay is a real number. -/
def FiniteLogs : Prop := ∀ b t h, inA m c b t h = ((inA m c b t h).toReal : EReal)

/-- A point's position, counted from its block's first, as a position of the sequence. -/
theorem pos_eq (t : Fin cfg0.N) (u : Fin 4096) : pos t u = Fin.ofNat 8192 (4096 * (1 - t.val % 2) + u.val) :=
  Fin.ext (show 4096 * (1 - t.val % 2) + u.val = (4096 * (1 - t.val % 2) + u.val) % 8192 by omega)

/-- The block of log-decays holds the reals it was launched with. -/
theorem logs_real (hA : FiniteLogs m c) (t : Fin cfg0.N) (h : Fin 8) (u : Fin 4096) : iblk m c 0 t (ix3 0 h u)
    = ((logAt (inA m c) (batch t) (head t h) (4096 * (1 - t.val % 2) + u.val) : ℝ) : EReal) := by
  rw [logs_apply, pos_eq]
  exact hA _ _ _

/-- What a point carries on, when what it was handed is the total of the positions after its block. -/
theorem carry_block (hA : FiniteLogs m c) (t : Fin cfg0.N) (carry : Vec Ideal S8x1 .f32)
    (hc : ∀ h : Fin 8, carry (ix2 h 0)
      = ((∑ i ∈ Finset.Ico (4096 * (1 - t.val % 2) + 4096) 8192, logAt (inA m c) (batch t) (head t h) i : ℝ) : EReal)) (h : Fin 8) :
    carryOf (iblk m c 0 t) carry (ix2 h 0)
      = ((∑ i ∈ Finset.Ico (4096 * (1 - t.val % 2)) 8192, logAt (inA m c) (batch t) (head t h) i : ℝ) : EReal) :=
  carryOf_apply (iblk m c 0 t) (fun h => logAt (inA m c) (batch t) (head t h)) (4096 * (1 - t.val % 2)) 8192 (by omega)
    (fun h u => logs_real m c hA t h u) carry hc h

/-- What a point adds to the accumulated state, on the diagonal blocks: its positions' terms. -/
theorem state_block (hA : FiniteLogs m c) (t : Fin cfg0.N) (carry : Vec Ideal S8x1 .f32)
    (hc : ∀ h : Fin 8, carry (ix2 h 0)
      = ((∑ i ∈ Finset.Ico (4096 * (1 - t.val % 2) + 4096) 8192, logAt (inA m c) (batch t) (head t h) i : ℝ) : EReal))
    (h : Fin 8) (p : Fin 64) (n : Fin 16) (r : Fin 512) (s : Fin 128) (hr : r.val = 64 * h.val + p.val) (hs : s.val = 16 * h.val + n.val) :
    stateOf (iblk m c 0 t) (iblk m c 1 t) (iblk m c 2 t) (iblk m c 3 t) (iblk m c 4 t) carry (ix2 r s)
      = ∑ u ∈ Finset.range 4096, term (inX m c) (inA m c) (inB m c) (batch t) (head t h) p n (4096 * (1 - t.val % 2) + u) := by
  rw [stateOf_apply (iblk m c 0 t) (iblk m c 1 t) (iblk m c 2 t) (iblk m c 3 t) (iblk m c 4 t)
    (fun h => logAt (inA m c) (batch t) (head t h)) (4096 * (1 - t.val % 2)) 8192 (by omega)
    (fun h u => logs_real m c hA t h u) (mask_apply m c t) (repeat_apply m c t) carry hc r s h (by omega), ← Fin.sum_univ_eq_sum_range
    (fun u => term (inX m c) (inA m c) (inB m c) (batch t) (head t h) p n (4096 * (1 - t.val % 2) + u))]
  refine Finset.sum_congr rfl fun u _ => ?_
  rw [inputs_apply m c t h p r hr u, proj_apply m c t h n s hs u, pos_eq]
  rfl

/-- A pair's first point starts from a carry of nothing: no position lies after the later half. -/
theorem carry_start (t : Fin cfg0.N) (ht : t.val % 2 = 0) (h : Fin 8) : (k0_pay17 : FVec Ideal S8x1 .f32) (ix2 h 0)
    = ((∑ i ∈ Finset.Ico (4096 * (1 - t.val % 2) + 4096) 8192, logAt (inA m c) (batch t) (head t h) i : ℝ) : EReal) := by
  rw [Finset.Ico_eq_empty (by omega), Finset.sum_empty]
  pointwise [k0_pay17]
  rfl

/-- What the first point of a pair leaves: the later half's total. -/
theorem carry_first (hA : FiniteLogs m c) (t : Fin cfg0.N) (ht : t.val % 2 = 0) (h : Fin 8) :
    (outsAt0 m c t.val t.isLt).2.1 (ix2 h 0) = ((∑ i ∈ Finset.Ico 4096 8192, logAt (inA m c) (batch t) (head t h) i : ℝ) : EReal) := by
  rw [outsAt0_A m c t ht ht (by omega) (by omega)]
  dsimp only
  rw [carry_A]
  have key := carry_block m c hA t (k0_pay17 (F := Ideal)) (carry_start m c t ht) h
  simp only [ht, Nat.sub_zero, Nat.mul_one] at key
  exact key

/-- What the first point of a pair leaves in the accumulated state, on the diagonal blocks: the later half's terms. -/
theorem state_first (hA : FiniteLogs m c) (t : Fin cfg0.N) (ht : t.val % 2 = 0) (h : Fin 8) (p : Fin 64) (n : Fin 16)
    (r : Fin 512) (s : Fin 128) (hr : r.val = 64 * h.val + p.val) (hs : s.val = 16 * h.val + n.val) :
    (outsAt0 m c t.val t.isLt).2.2 (ix2 r s)
      = ∑ u ∈ Finset.range 4096, term (inX m c) (inA m c) (inB m c) (batch t) (head t h) p n (4096 + u) := by
  rw [outsAt0_A m c t ht ht (by omega) (by omega)]
  dsimp only
  rw [state_A]
  have key := state_block m c hA t (k0_pay17 (F := Ideal)) (carry_start m c t ht) h p n r s hr hs
  simp only [ht, Nat.sub_zero, Nat.mul_one] at key
  rw [← key]
  generalize stateOf (iblk m c 0 t) (iblk m c 1 t) (iblk m c 2 t) (iblk m c 3 t) (iblk m c 4 t) (k0_pay17 (F := Ideal)) = z
  pointwise [k0_pay6]

/-- What the second point of a pair writes back: every position's terms. -/
theorem out_second (hA : FiniteLogs m c) (t : Fin cfg0.N) (ht : t.val % 2 = 1) (y : S1x8x64x16.Idx) (h : Fin 8) (p : Fin 64) (n : Fin 16)
    (h1 : (y 1).val = h.val) (h2 : (y 2).val = p.val) (h3 : (y 3).val = n.val) :
    (outsAt0 m c t.val t.isLt).1 y = final (inX m c) (inA m c) (inB m c) (batch t) (head t h) p n := by
  have hN : t.val < 32 := lt_of_lt_of_eq t.isLt N_0
  obtain ⟨t', ht'⟩ : ∃ t' : Fin cfg0.N, t'.val = t.val - 1 := ⟨⟨t.val - 1, by have := t.isLt; omega⟩, rfl⟩
  have hb : batch t' = batch t := Fin.ext (show t'.val / 8 = t.val / 8 by omega)
  have hh : ∀ h, head t' h = head t h := fun h => Fin.ext (show 8 * (t'.val / 2 % 4) + h.val = 8 * (t.val / 2 % 4) + h.val by omega)
  have hc := fun h => carry_first m c hA t' (by omega) h
  obtain ⟨r, hr⟩ : ∃ r : Fin 512, r.val = 64 * h.val + p.val := ⟨⟨64 * h.val + p.val, by omega⟩, rfl⟩
  obtain ⟨s, hs⟩ : ∃ s : Fin 128, s.val = 16 * h.val + n.val := ⟨⟨16 * h.val + n.val, by omega⟩, rfl⟩
  have ha := state_first m c hA t' (by omega) h p n r s hr hs
  simp only [hb, hh] at hc ha
  have hd : diag y = ix2 r s := by
    unfold diag
    exact congrArg₂ ix2 (Fin.ext (show 64 * (y 1).val + (y 2).val = r.val by omega)) (Fin.ext (show 16 * (y 1).val + (y 3).val = s.val by omega))
  rw [outsAt0_B m c t (by omega) (by omega) ht ht]
  dsimp only
  rw [out_B, hd]
  have e : outsAt0 m c (t.val - 1) (Nat.lt_of_le_of_lt (Nat.sub_le _ _) t.isLt) = outsAt0 m c t'.val t'.isLt := by
    congr 1; exact ht'.symm
  rw [e]
  revert hc ha
  generalize (outsAt0 m c t'.val t'.isLt).2.1 = carry
  generalize (outsAt0 m c t'.val t'.isLt).2.2 = acc
  intro hc ha
  have hz := state_block m c hA t carry (by rw [ht]; exact hc) h p n r s hr hs
  revert hz
  generalize stateOf (iblk m c 0 t) (iblk m c 1 t) (iblk m c 2 t) (iblk m c 3 t) (iblk m c 4 t) carry = z
  intro hz
  refine Eq.trans (b := acc (ix2 r s) + z (ix2 r s)) ?_ ?_
  · pointwise [k0_pay7]
  · have two := sum_blocks (term (inX m c) (inA m c) (inB m c) (batch t) (head t h) p n) 2 4096
    simp only [Finset.sum_range_succ _ 1, Finset.sum_range_one, Nat.zero_mul, Nat.one_mul, Nat.zero_add] at two
    rw [ha, hz, ht, final, ← two, add_comm]
    simp only [Nat.sub_self, Nat.mul_zero, Nat.zero_add]

/-- The result array: at batch `4 b + q` of its first axis and head `h` of its second, the final state of head `8 q + h` of batch `b`. -/
theorem result_apply (hA : FiniteLogs m c) (g : Fin 16) (h : Fin 8) (p : Fin 64) (n : Fin 16) :
    Value.G5 m c (ix4 g h p n)
      = final (inX m c) (inA m c) (inB m c) ⟨g.val / 4, by omega⟩ ⟨8 * (g.val % 4) + h.val, by omega⟩ p n := by
  have e : cfg0.N = 32 := N_0
  have hp : Value.pt5Of (ix4 g h p n : S16x8x64x16.Idx) = 2 * g.val + 1 := by
    show 2 * (1 * (g.val / 1 - 0) + 1 * (h.val / 8 - 0) + 1 * (p.val / 64 - 0) + 1 * (n.val / 16 - 0)) + 1 = _
    omega
  have hlt : Value.pt5Of (ix4 g h p n : S16x8x64x16.Idx) < cfg0.N := by rw [hp]; omega
  unfold Value.G5
  rw [dif_pos hlt, ← Value.outsAt0_sweep m c _ hlt]
  refine (out_second m c hA ⟨_, hlt⟩ (by show Value.pt5Of (ix4 g h p n : S16x8x64x16.Idx) % 2 = 1; omega) _ h p n ?_ ?_ ?_).trans ?_
  · show h.val % 8 = h.val; omega
  · show p.val % 64 = p.val; omega
  · show n.val % 16 = n.val; omega
  · exact congrArg₂ (fun b h => final (inX m c) (inA m c) (inB m c) b h p n)
      (Fin.ext (show Value.pt5Of (ix4 g h p n : S16x8x64x16.Idx) / 8 = g.val / 4 by omega))
      (Fin.ext (show 8 * (Value.pt5Of (ix4 g h p n : S16x8x64x16.Idx) / 2 % 4) + h.val = 8 * (g.val % 4) + h.val by omega))

end Cert.KernelIdeal.Result

end
-- ==== Proof.Windows.lean ====
/- Running sums, as the reference prints them: a window of the whole length that slides in from before the first entry. -/
module

public import Idealize.ShloMosaic.Lib.Pointwise
public import proofs.«01_k».proof.Proof.Gen.ReferenceIdeal.Read
public import proofs.«01_k».proof.Proof.Math

@[expose] public section

set_option maxRecDepth 16384

noncomputable section

namespace Cert.ReferenceIdeal.Windows

open Cert.ReferenceIdeal Cert.ReferenceIdeal.Gen Cert.Decay Idealize.ShloMosaic

/-- One entry of the window's run, as the real it stands for, sums to a running sum over the reals. -/
theorem run_sum (N k j : ℕ) (hN : N = k + 1) (hj : j ≤ k) (f : ℕ → ℝ) (g : Fin N → EReal)
    (hg : ∀ n : Fin N, g n = ((if k ≤ j + n.val then f (j + n.val - k) else 0 : ℝ) : EReal)) :
    (List.finRange N).foldl (fun r i => r + g i) 0 = ((∑ i ∈ Finset.range (j + 1), f i : ℝ) : EReal) := by
  subst hN
  rw [foldl_add_eq_sum, zero_add, Finset.sum_congr rfl fun n _ => hg n, ← coe_sum,
    Fin.sum_univ_eq_sum_range (fun n => if k ≤ j + n then f (j + n - k) else 0), window_sum f k j hj]

/-- Where a step of a window one wide on three axes stands: at its own number on the last axis. -/
theorem step_four (n : Fin (⟨4, ![1, 1, 1, 64]⟩ : Shape).numel) : n.val < 64
    ∧ ((⟨4, ![1, 1, 1, 64]⟩ : Shape).rowMajor.symm n 0).val = 0 ∧ ((⟨4, ![1, 1, 1, 64]⟩ : Shape).rowMajor.symm n 1).val = 0
    ∧ ((⟨4, ![1, 1, 1, 64]⟩ : Shape).rowMajor.symm n 2).val = 0 ∧ ((⟨4, ![1, 1, 1, 64]⟩ : Shape).rowMajor.symm n 3).val = n.val := by
  have row := Shape.rowMajor_val_four ((⟨4, ![1, 1, 1, 64]⟩ : Shape).rowMajor.symm n)
  rw [Equiv.apply_symm_apply] at row
  have i0 : ((⟨4, ![1, 1, 1, 64]⟩ : Shape).rowMajor.symm n 0).val < 1 := Fin.isLt _
  have i1 : ((⟨4, ![1, 1, 1, 64]⟩ : Shape).rowMajor.symm n 1).val < 1 := Fin.isLt _
  have i2 : ((⟨4, ![1, 1, 1, 64]⟩ : Shape).rowMajor.symm n 2).val < 1 := Fin.isLt _
  have i3 : ((⟨4, ![1, 1, 1, 64]⟩ : Shape).rowMajor.symm n 3).val < 64 := Fin.isLt _
  change n.val = ((((⟨4, ![1, 1, 1, 64]⟩ : Shape).rowMajor.symm n 0).val * 1 + ((⟨4, ![1, 1, 1, 64]⟩ : Shape).rowMajor.symm n 1).val) * 1
    + ((⟨4, ![1, 1, 1, 64]⟩ : Shape).rowMajor.symm n 2).val) * 64 + ((⟨4, ![1, 1, 1, 64]⟩ : Shape).rowMajor.symm n 3).val at row
  omega

/-- The same for a window one wide on two axes. -/
theorem step_three (n : Fin (⟨3, ![1, 1, 129]⟩ : Shape).numel) : n.val < 129
    ∧ ((⟨3, ![1, 1, 129]⟩ : Shape).rowMajor.symm n 0).val = 0 ∧ ((⟨3, ![1, 1, 129]⟩ : Shape).rowMajor.symm n 1).val = 0
    ∧ ((⟨3, ![1, 1, 129]⟩ : Shape).rowMajor.symm n 2).val = n.val := by
  have row := Shape.rowMajor_val_three ((⟨3, ![1, 1, 129]⟩ : Shape).rowMajor.symm n)
  rw [Equiv.apply_symm_apply] at row
  have i0 : ((⟨3, ![1, 1, 129]⟩ : Shape).rowMajor.symm n 0).val < 1 := Fin.isLt _
  have i1 : ((⟨3, ![1, 1, 129]⟩ : Shape).rowMajor.symm n 1).val < 1 := Fin.isLt _
  have i2 : ((⟨3, ![1, 1, 129]⟩ : Shape).rowMajor.symm n 2).val < 129 := Fin.isLt _
  change n.val = (((⟨3, ![1, 1, 129]⟩ : Shape).rowMajor.symm n 0).val * 1 + ((⟨3, ![1, 1, 129]⟩ : Shape).rowMajor.symm n 1).val) * 129
    + ((⟨3, ![1, 1, 129]⟩ : Shape).rowMajor.symm n 2).val at row
  omega

/-- The running sum along the last axis of four, 64 entries long. -/
theorem running_four (x : FVec Ideal S4x32x128x64 .f32) (init : FVec Ideal S_ .f32) (hinit : init ix0 = 0)
    (b : Fin 4) (h : Fin 32) (c : Fin 128) (f : ℕ → ℝ) (hx : ∀ l : Fin 64, x (ix4 b h c l) = (f l.val : EReal)) (j : Fin 64) :
    Host.reduceWindowAdd ![1, 1, 1, 64] ![1, 1, 1, 1] ![0, 0, 0, 63] ![0, 0, 0, 0] x init
      reduceWindows_S4x32x128x64_S4x32x128x64_w1s1p0_0_w1s1p0_0_w1s1p0_0_w64s1p63_0 h_S_ (ix4 b h c j)
      = ((∑ i ∈ Finset.range (j.val + 1), f i : ℝ) : EReal) := by
  have hv : init (Shape.Idx.first h_S_) = 0 := (congrArg init (funext fun a => a.elim0)).trans hinit
  have hj := j.isLt
  have hb := b.isLt
  have hh := h.isLt
  have hc := c.isLt
  show Host.reduceWindow (· + ·) ![1, 1, 1, 64] ![1, 1, 1, 1] ![0, 0, 0, 63] ![0, 0, 0, 0] x (fun _ => init (Shape.Idx.first h_S_))
    reduceWindows_S4x32x128x64_S4x32x128x64_w1s1p0_0_w1s1p0_0_w1s1p0_0_w64s1p63_0 h_S_ (ix4 b h c j) = _
  rw [hv]
  unfold Host.reduceWindow
  refine run_sum (⟨4, ![1, 1, 1, 64]⟩ : Shape).numel 63 j.val (by decide) (by omega) f _ fun n => ?_
  obtain ⟨hn, w0, w1, w2, w3⟩ := step_four n
  dsimp only
  by_cases hle : 63 ≤ j.val + n.val
  · rw [if_pos hle, dif_pos]
    · refine (congrArg x (funext fun a => Fin.ext ?_)).trans (hx ⟨j.val + n.val - 63, by omega⟩)
      match a with
      | ⟨0, _⟩ => show b.val * 1 + ((⟨4, ![1, 1, 1, 64]⟩ : Shape).rowMajor.symm n 0).val - 0 = b.val; omega
      | ⟨1, _⟩ => show h.val * 1 + ((⟨4, ![1, 1, 1, 64]⟩ : Shape).rowMajor.symm n 1).val - 0 = h.val; omega
      | ⟨2, _⟩ => show c.val * 1 + ((⟨4, ![1, 1, 1, 64]⟩ : Shape).rowMajor.symm n 2).val - 0 = c.val; omega
      | ⟨3, _⟩ => show j.val * 1 + ((⟨4, ![1, 1, 1, 64]⟩ : Shape).rowMajor.symm n 3).val - 63 = j.val + n.val - 63; omega
    · intro a
      match a with
      | ⟨0, _⟩ => show 0 ≤ b.val * 1 + ((⟨4, ![1, 1, 1, 64]⟩ : Shape).rowMajor.symm n 0).val ∧ b.val * 1 + ((⟨4, ![1, 1, 1, 64]⟩ : Shape).rowMajor.symm n 0).val - 0 < 4; omega
      | ⟨1, _⟩ => show 0 ≤ h.val * 1 + ((⟨4, ![1, 1, 1, 64]⟩ : Shape).rowMajor.symm n 1).val ∧ h.val * 1 + ((⟨4, ![1, 1, 1, 64]⟩ : Shape).rowMajor.symm n 1).val - 0 < 32; omega
      | ⟨2, _⟩ => show 0 ≤ c.val * 1 + ((⟨4, ![1, 1, 1, 64]⟩ : Shape).rowMajor.symm n 2).val ∧ c.val * 1 + ((⟨4, ![1, 1, 1, 64]⟩ : Shape).rowMajor.symm n 2).val - 0 < 128; omega
      | ⟨3, _⟩ => show 63 ≤ j.val * 1 + ((⟨4, ![1, 1, 1, 64]⟩ : Shape).rowMajor.symm n 3).val ∧ j.val * 1 + ((⟨4, ![1, 1, 1, 64]⟩ : Shape).rowMajor.symm n 3).val - 63 < 64; omega
  · rw [if_neg hle, dif_neg]
    · rfl
    · intro hin
      have h3 := hin 3
      change 63 ≤ j.val * 1 + ((⟨4, ![1, 1, 1, 64]⟩ : Shape).rowMajor.symm n 3).val ∧ j.val * 1 + ((⟨4, ![1, 1, 1, 64]⟩ : Shape).rowMajor.symm n 3).val - 63 < 64 at h3
      omega

/-- The running sum along the last axis of three, 129 entries long. -/
theorem running_three (x : FVec Ideal S4x32x129 .f32) (init : FVec Ideal S_ .f32) (hinit : init ix0 = 0)
    (b : Fin 4) (h : Fin 32) (f : ℕ → ℝ) (hx : ∀ k : Fin 129, x (ix3 b h k) = (f k.val : EReal)) (j : Fin 129) :
    Host.reduceWindowAdd ![1, 1, 129] ![1, 1, 1] ![0, 0, 128] ![0, 0, 0] x init
      reduceWindows_S4x32x129_S4x32x129_w1s1p0_0_w1s1p0_0_w129s1p128_0 h_S_ (ix3 b h j)
      = ((∑ i ∈ Finset.range (j.val + 1), f i : ℝ) : EReal) := by
  have hv : init (Shape.Idx.first h_S_) = 0 := (congrArg init (funext fun a => a.elim0)).trans hinit
  have hj := j.isLt
  have hb := b.isLt
  have hh := h.isLt
  show Host.reduceWindow (· + ·) ![1, 1, 129] ![1, 1, 1] ![0, 0, 128] ![0, 0, 0] x (fun _ => init (Shape.Idx.first h_S_))
    reduceWindows_S4x32x129_S4x32x129_w1s1p0_0_w1s1p0_0_w129s1p128_0 h_S_ (ix3 b h j) = _
  rw [hv]
  unfold Host.reduceWindow
  refine run_sum (⟨3, ![1, 1, 129]⟩ : Shape).numel 128 j.val (by decide) (by omega) f _ fun n => ?_
  obtain ⟨hn, w0, w1, w2⟩ := step_three n
  dsimp only
  by_cases hle : 128 ≤ j.val + n.val
  · rw [if_pos hle, dif_pos]
    · refine (congrArg x (funext fun a => Fin.ext ?_)).trans (hx ⟨j.val + n.val - 128, by omega⟩)
      match a with
      | ⟨0, _⟩ => show b.val * 1 + ((⟨3, ![1, 1, 129]⟩ : Shape).rowMajor.symm n 0).val - 0 = b.val; omega
      | ⟨1, _⟩ => show h.val * 1 + ((⟨3, ![1, 1, 129]⟩ : Shape).rowMajor.symm n 1).val - 0 = h.val; omega
      | ⟨2, _⟩ => show j.val * 1 + ((⟨3, ![1, 1, 129]⟩ : Shape).rowMajor.symm n 2).val - 128 = j.val + n.val - 128; omega
    · intro a
      match a with
      | ⟨0, _⟩ => show 0 ≤ b.val * 1 + ((⟨3, ![1, 1, 129]⟩ : Shape).rowMajor.symm n 0).val ∧ b.val * 1 + ((⟨3, ![1, 1, 129]⟩ : Shape).rowMajor.symm n 0).val - 0 < 4; omega
      | ⟨1, _⟩ => show 0 ≤ h.val * 1 + ((⟨3, ![1, 1, 129]⟩ : Shape).rowMajor.symm n 1).val ∧ h.val * 1 + ((⟨3, ![1, 1, 129]⟩ : Shape).rowMajor.symm n 1).val - 0 < 32; omega
      | ⟨2, _⟩ => show 128 ≤ j.val * 1 + ((⟨3, ![1, 1, 129]⟩ : Shape).rowMajor.symm n 2).val ∧ j.val * 1 + ((⟨3, ![1, 1, 129]⟩ : Shape).rowMajor.symm n 2).val - 128 < 129; omega
  · rw [if_neg hle, dif_neg]
    · rfl
    · intro hin
      have h2 := hin 2
      change 128 ≤ j.val * 1 + ((⟨3, ![1, 1, 129]⟩ : Shape).rowMajor.symm n 2).val ∧ j.val * 1 + ((⟨3, ![1, 1, 129]⟩ : Shape).rowMajor.symm n 2).val - 128 < 129 at h2
      omega

end Cert.ReferenceIdeal.Windows

end
-- ==== Proof.Reference.lean ====
/- What the reference computes: the final state of every head, read one stage at a time. -/
module

public import proofs.«01_k».proof.Proof.Windows
public import proofs.«01_k».proof.Proof.Spec
public import Idealize.ShloMosaic.Lib.KernelVsHost

@[expose] public section

set_option maxRecDepth 16384

noncomputable section

namespace Cert.ReferenceIdeal.Result

open Cert.ReferenceIdeal Cert.ReferenceIdeal.Gen Cert.ReferenceIdeal.Read Cert.ReferenceIdeal.Windows Cert.Decay
open Idealize.ShloMosaic

variable (x0 : FVec Ideal S4x8192x32x64 .f32) (x1 : FVec Ideal S4x8192x32 .f32) (x2 : FVec Ideal S4x8192x32x16 .f32)

/-- The inputs, by batch, position, head and state row. -/
def inX (b : Fin 4) (t : Fin 8192) (h : Fin 32) (p : Fin 64) : EReal := x0 (ix4 b t h p)

/-- The log-decays, by batch, position and head. -/
def inA (b : Fin 4) (t : Fin 8192) (h : Fin 32) : EReal := x1 (ix3 b t h)

/-- The projections, by batch, position, head and column. -/
def inB (b : Fin 4) (t : Fin 8192) (h : Fin 32) (n : Fin 16) : EReal := x2 (ix4 b t h n)

/-- Every log-decay is a real number. -/
def FiniteLogs : Prop := ∀ b t h, inA x1 b t h = ((inA x1 b t h).toReal : EReal)

/-- Entry `l` of chunk `c`, as a position of the sequence. -/
theorem pos_eq (c : Fin 128) (l : Fin 64) : (⟨64 * c.val + l.val, by omega⟩ : Fin 8192) = Fin.ofNat 8192 (64 * c.val + l.val) :=
  Fin.ext (show 64 * c.val + l.val = (64 * c.val + l.val) % 8192 by omega)

/-- The log-decays cut into chunks of 64. -/
theorem chunked_logs (hA : FiniteLogs x1) (b : Fin 4) (h : Fin 32) (c : Fin 128) (l : Fin 64) :
    val_main_v3 (F := Ideal) x1 (ix4 b h c l) = ((logAt (inA x1) b h (64 * c.val + l.val) : ℝ) : EReal) := by
  have e : val_main_v3 (F := Ideal) x1 (ix4 b h c l) = x1 (ix3 b ⟨64 * c.val + l.val, by omega⟩ h) := by
    pointwise [val_main_v3, val_main_v2]
    simp only [Nat.mul_comm c.val 64]
  rw [e, pos_eq]
  exact hA _ _ _

/-- The inputs cut into chunks of 64. -/
theorem chunked_inputs (b : Fin 4) (c : Fin 128) (l : Fin 64) (h : Fin 32) (p : Fin 64) :
    val_main_v0 (F := Ideal) x0 (ix5 b c l h p) = inX x0 b (Fin.ofNat 8192 (64 * c.val + l.val)) h p := by
  rw [← pos_eq]
  unfold inX
  pointwise [val_main_v0]
  simp only [Nat.mul_comm c.val 64]

/-- The projections cut into chunks of 64. -/
theorem chunked_proj (b : Fin 4) (c : Fin 128) (l : Fin 64) (h : Fin 32) (n : Fin 16) :
    val_main_v1 (F := Ideal) x2 (ix5 b c l h n) = inB x2 b (Fin.ofNat 8192 (64 * c.val + l.val)) h n := by
  rw [← pos_eq]
  unfold inB
  pointwise [val_main_v1]
  simp only [Nat.mul_comm c.val 64]

/-- The sum of a chunk's entries up to and including entry `l`. -/
theorem chunk_running (hA : FiniteLogs x1) (b : Fin 4) (h : Fin 32) (c : Fin 128) (l : Fin 64) :
    val_main_v4 (F := Ideal) x1 (ix4 b h c l) = ((∑ i ∈ Finset.range (l.val + 1), logAt (inA x1) b h (64 * c.val + i) : ℝ) : EReal) :=
  running_four (val_main_v3 (F := Ideal) x1) (val_main_call0_call0_v0 (F := Ideal)) (by pointwise [val_main_call0_call0_v0, val_main_call0_call0_cst])
    b h c (fun i => logAt (inA x1) b h (64 * c.val + i)) (fun l => chunked_logs x1 hA b h c l) l

/-- The decay from a position to the end of its chunk. -/
theorem chunk_decay (hA : FiniteLogs x1) (b : Fin 4) (c : Fin 128) (l : Fin 64) (h : Fin 32) :
    val_main_v9 (F := Ideal) x1 (ix4 b c l h)
      = ((Real.exp (∑ i ∈ Finset.Ico (64 * c.val + l.val + 1) (64 * c.val + 64), logAt (inA x1) b h i) : ℝ) : EReal) := by
  have e : val_main_v9 (F := Ideal) x1 (ix4 b c l h)
      = Ideal.exp (val_main_v4 (F := Ideal) x1 (ix4 b h c 63) - val_main_v4 (F := Ideal) x1 (ix4 b h c l)) := by
    pointwise [val_main_v9, val_main_v8, val_main_v7, val_main_v6, val_main_v5]
  rw [e, chunk_running x1 hA, chunk_running x1 hA, ← EReal.coe_sub, Ideal.exp_coe]
  have t := tail_split (logAt (inA x1) b h) (a := 64 * c.val) (b := 64 * c.val + (l.val + 1)) (n := 64 * c.val + 64) (by omega) (by omega)
  rw [block_sum, block_sum]
  congr 2
  show (∑ i ∈ Finset.Ico (64 * c.val) (64 * c.val + 64), _ : ℝ) - _ = _
  rw [← t, add_sub_cancel_left]
  rfl

/-- The state a chunk leaves: the sum over its positions. -/
theorem chunk_state (hA : FiniteLogs x1) (b : Fin 4) (c : Fin 128) (h : Fin 32) (p : Fin 64) (n : Fin 16) :
    val_main_v13 (F := Ideal) x0 x1 x2 (ix5 b c h p n)
      = ∑ l : Fin 64, ((Real.exp (∑ i ∈ Finset.Ico (64 * c.val + l.val + 1) (64 * c.val + 64), logAt (inA x1) b h i) : ℝ) : EReal)
        * inX x0 b (Fin.ofNat 8192 (64 * c.val + l.val)) h p * inB x2 b (Fin.ofNat 8192 (64 * c.val + l.val)) h n := by
  have e : val_main_v13 (F := Ideal) x0 x1 x2 (ix5 b c h p n)
      = ∑ l : Fin 64, val_main_v9 (F := Ideal) x1 (ix4 b c l h) * val_main_v0 (F := Ideal) x0 (ix5 b c l h p) * val_main_v1 (F := Ideal) x2 (ix5 b c l h n) := by
    rw [val_main_v13_apply]
    refine Finset.sum_congr rfl fun l _ => ?_
    have el : lidx_main_v13 (ix5 b c h p n) l = ix5 b c l h p := funext fun a => match a with
      | ⟨0, _⟩ => rfl | ⟨1, _⟩ => rfl | ⟨2, _⟩ => rfl | ⟨3, _⟩ => rfl | ⟨4, _⟩ => rfl
    have er : ridx_main_v13 (ix5 b c h p n) l = ix5 b c l h n := funext fun a => match a with
      | ⟨0, _⟩ => rfl | ⟨1, _⟩ => rfl | ⟨2, _⟩ => rfl | ⟨3, _⟩ => rfl | ⟨4, _⟩ => rfl
    rw [el, er]
    pointwise [val_main_v12, val_main_v11, val_main_v10]
  rw [e]
  refine Finset.sum_congr rfl fun l _ => ?_
  rw [chunk_decay x1 hA, chunked_inputs, chunked_proj]

/-- The chunk totals with a zero in front. -/
theorem totals (hA : FiniteLogs x1) (b : Fin 4) (h : Fin 32) (k : Fin 129) : val_main_v19 (F := Ideal) x1 (ix3 b h k)
    = (((if k.val = 0 then 0 else ∑ i ∈ Finset.range 64, logAt (inA x1) b h (64 * (k.val - 1) + i)) : ℝ) : EReal) := by
  have hk := k.isLt
  unfold val_main_v19
  by_cases hz : k.val = 0
  · rw [pad_apply_of_not_inside _ _ _ _ _ _ _ _ (2 : Fin 3) (by
      intro hin
      have h1 := hin.1
      change 1 ≤ k.val at h1
      omega), if_pos hz]
    show val_main_call1_v0 (F := Ideal) _ = _
    unfold val_main_call1_v0 val_main_c
    show (((0#32 : BitVec 32).toInt : ℝ) : EReal) = _
    simp
  · obtain ⟨c, hc⟩ : ∃ c : Fin 128, k.val = c.val + 1 := ⟨⟨k.val - 1, by omega⟩, by show k.val = k.val - 1 + 1; omega⟩
    rw [if_neg hz, pad_apply_of_inside _ _ _ _ _ _ _ _ (ix3 b h c : S4x32x128.Idx) (fun a => by
      match a with
      | ⟨0, _⟩ => show b.val = 0 + b.val * (0 + 1); omega
      | ⟨1, _⟩ => show h.val = 0 + h.val * (0 + 1); omega
      | ⟨2, _⟩ => show k.val = 1 + c.val * (0 + 1); omega)]
    have e : val_main_v18 (F := Ideal) x1 (ix3 b h c) = val_main_v4 (F := Ideal) x1 (ix4 b h c 63) := by
      pointwise [val_main_v18, val_main_v17]
    rw [e, chunk_running x1 hA, hc, Nat.add_sub_cancel]
    rfl

/-- The sum of every entry before chunk `k`. -/
theorem before_chunk (hA : FiniteLogs x1) (b : Fin 4) (h : Fin 32) (k : Fin 129) :
    val_main_v20 (F := Ideal) x1 (ix3 b h k) = ((∑ i ∈ Finset.range (64 * k.val), logAt (inA x1) b h i : ℝ) : EReal) := by
  refine (running_three (val_main_v19 (F := Ideal) x1) (val_main_call2_call0_v0 (F := Ideal)) (by pointwise [val_main_call2_call0_v0, val_main_call2_call0_cst])
    b h (fun k => if k = 0 then 0 else ∑ i ∈ Finset.range 64, logAt (inA x1) b h (64 * (k - 1) + i)) (fun k => totals x1 hA b h k) k).trans ?_
  rw [Finset.sum_range_succ']
  have s := sum_blocks (logAt (inA x1) b h) k.val 64
  simp only [Nat.mul_comm _ 64] at s
  rw [← s]
  simp

/-- The decay from the end of the chunk before `k` to the end of the sequence. -/
theorem decay_after (hA : FiniteLogs x1) (b : Fin 4) (h : Fin 32) (k : Fin 129) : val_main_v24 (F := Ideal) x1 (ix3 b h k)
    = ((Real.exp (∑ i ∈ Finset.Ico (64 * k.val) 8192, logAt (inA x1) b h i) : ℝ) : EReal) := by
  have e : val_main_v24 (F := Ideal) x1 (ix3 b h k)
      = Ideal.exp (val_main_v20 (F := Ideal) x1 (ix3 b h 128) - val_main_v20 (F := Ideal) x1 (ix3 b h k)) := by
    pointwise [val_main_v24, val_main_v23, val_main_v22, val_main_v21]
  have hk := k.isLt
  rw [e, before_chunk x1 hA, before_chunk x1 hA, ← EReal.coe_sub, Ideal.exp_coe]
  have t := tail_split (logAt (inA x1) b h) (a := 0) (b := 64 * k.val) (n := 8192) (by omega) (by omega)
  simp only [Finset.range_eq_Ico]
  congr 2
  show (∑ i ∈ Finset.Ico 0 8192, _ : ℝ) - _ = _
  rw [← t, add_sub_cancel_left]

/-- Before the first chunk the state is zero. -/
theorem states_first (b : Fin 4) (h : Fin 32) (p : Fin 64) (n : Fin 16) : val_main_v16 (F := Ideal) x0 x1 x2 (ix5 b 0 h p n) = 0 := by
  unfold val_main_v16
  generalize val_main_v13 (F := Ideal) x0 x1 x2 = y
  refine (concatenate_pair_apply_left (t := S4x129x32x64x16) (s₁ := S4x1x32x64x16) (s₂ := S4x128x32x64x16) (1 : Fin 5) _ y concatenates_S4x1x32x64x16_S4x128x32x64x16_S4x129x32x64x16_d1 _ rfl (ix5 b 0 h p n : S4x1x32x64x16.Idx) (fun a => by
    match a with
    | ⟨0, _⟩ => rfl
    | ⟨1, _⟩ => rfl
    | ⟨2, _⟩ => rfl
    | ⟨3, _⟩ => rfl
    | ⟨4, _⟩ => rfl)).trans ?_
  pointwise [val_main_v15, val_main_cst]

/-- After it come the chunks' own states in order. -/
theorem states_later (b : Fin 4) (c : Fin 128) (h : Fin 32) (p : Fin 64) (n : Fin 16) :
    val_main_v16 (F := Ideal) x0 x1 x2 (ix5 b c.succ h p n) = val_main_v13 (F := Ideal) x0 x1 x2 (ix5 b c h p n) := by
  unfold val_main_v16
  generalize val_main_v13 (F := Ideal) x0 x1 x2 = y
  exact concatenate_pair_apply_right (t := S4x129x32x64x16) (s₁ := S4x1x32x64x16) (s₂ := S4x128x32x64x16) (1 : Fin 5) _ y concatenates_S4x1x32x64x16_S4x128x32x64x16_S4x129x32x64x16_d1 _ rfl rfl (ix5 b c h p n : S4x128x32x64x16.Idx)
    (fun a ha => by
      match a with
      | ⟨0, _⟩ => rfl
      | ⟨1, _⟩ => exact absurd rfl ha
      | ⟨2, _⟩ => rfl
      | ⟨3, _⟩ => rfl
      | ⟨4, _⟩ => rfl)
    (by exact rfl)

/-- A chunk's state carried to the end of the sequence is the sum of its positions' terms. -/
theorem chunk_terms (hA : FiniteLogs x1) (b : Fin 4) (c : Fin 128) (h : Fin 32) (p : Fin 64) (n : Fin 16) :
    val_main_v13 (F := Ideal) x0 x1 x2 (ix5 b c h p n) * val_main_v24 (F := Ideal) x1 (ix3 b h c.succ)
      = ∑ l ∈ Finset.range 64, term (inX x0) (inA x1) (inB x2) b h p n (c.val * 64 + l) := by
  rw [chunk_state x0 x1 x2 hA, decay_after x1 hA, sum_mul_real _ _ _ (Real.exp_nonneg _),
    ← Fin.sum_univ_eq_sum_range (fun l => term (inX x0) (inA x1) (inB x2) b h p n (c.val * 64 + l))]
  refine Finset.sum_congr rfl fun l _ => ?_
  have hl := l.isLt
  have hc := c.isLt
  have t := tail_split (logAt (inA x1) b h) (a := 64 * c.val + l.val + 1) (b := 64 * c.val + 64) (n := 8192) (by omega) (by omega)
  unfold term
  rw [Nat.mul_comm c.val 64, ← t, Real.exp_add, EReal.coe_mul, Fin.val_succ, show 64 * (c.val + 1) = 64 * c.val + 64 by omega]
  ac_rfl

/-- One head's result: every position's term. -/
theorem head_result (hA : FiniteLogs x1) (b : Fin 4) (h : Fin 32) (p : Fin 64) (n : Fin 16) :
    val_main_v25 (F := Ideal) x0 x1 x2 (ix4 b h p n) = final (inX x0) (inA x1) (inB x2) b h p n := by
  rw [val_main_v25_apply]
  have e : ∀ k : Fin 129, val_main_v16 (F := Ideal) x0 x1 x2 (lidx_main_v25 (ix4 b h p n) k) * val_main_v24 (F := Ideal) x1 (ridx_main_v25 (ix4 b h p n) k)
      = val_main_v16 (F := Ideal) x0 x1 x2 (ix5 b k h p n) * val_main_v24 (F := Ideal) x1 (ix3 b h k) := fun k => by
    have el : lidx_main_v25 (ix4 b h p n) k = ix5 b k h p n := funext fun a => match a with
      | ⟨0, _⟩ => rfl | ⟨1, _⟩ => rfl | ⟨2, _⟩ => rfl | ⟨3, _⟩ => rfl | ⟨4, _⟩ => rfl
    have er : ridx_main_v25 (ix4 b h p n) k = ix3 b h k := funext fun a => match a with
      | ⟨0, _⟩ => rfl | ⟨1, _⟩ => rfl | ⟨2, _⟩ => rfl
    rw [el, er]
  rw [Finset.sum_congr rfl fun k _ => e k, Fin.sum_univ_succ, states_first, zero_mul, zero_add, final,
    ← sum_blocks (term (inX x0) (inA x1) (inB x2) b h p n) 128 64,
    ← Fin.sum_univ_eq_sum_range (fun c => ∑ l ∈ Finset.range 64, term (inX x0) (inA x1) (inB x2) b h p n (c * 64 + l))]
  refine Finset.sum_congr rfl fun c _ => ?_
  rw [states_later, chunk_terms x0 x1 x2 hA]

/-- The result at batch `4 b + q` of its first axis and head `h` of its second. -/
theorem result_apply (hA : FiniteLogs x1) (g : Fin 16) (h : Fin 8) (p : Fin 64) (n : Fin 16) :
    val_main_v26 (F := Ideal) x0 x1 x2 (ix4 g h p n)
      = final (inX x0) (inA x1) (inB x2) ⟨g.val / 4, by omega⟩ ⟨8 * (g.val % 4) + h.val, by omega⟩ p n := by
  rw [← head_result x0 x1 x2 hA, val_main_v26_apply]
  refine congrArg _ (funext fun a => Fin.ext ?_)
  have hg := g.isLt
  have hh := h.isLt
  have hp := p.isLt
  have hn := n.isLt
  match a with
  | ⟨0, _⟩ => show (((g.val * 8 + h.val) * 64 + p.val) * 16 + n.val) / 32768 = g.val / 4; omega
  | ⟨1, _⟩ => show (((g.val * 8 + h.val) * 64 + p.val) * 16 + n.val) / 1024 % 32 = 8 * (g.val % 4) + h.val; omega
  | ⟨2, _⟩ => show (((g.val * 8 + h.val) * 64 + p.val) * 16 + n.val) / 16 % 64 = p.val; omega
  | ⟨3, _⟩ => show (((g.val * 8 + h.val) * 64 + p.val) * 16 + n.val) % 16 = n.val; omega

end Cert.ReferenceIdeal.Result

end
-- ==== Proof.Finite.lean ====
/- What the precondition says: every log-decay is a real number. -/
module

public import proofs.«01_k».proof.Pre_finite_log_decays
public import Idealize.ShloMosaic.Lib.Pointwise

@[expose] public section

set_option maxRecDepth 16384

noncomputable section

namespace Cert.Decay

open Idealize.ShloMosaic Cert.Pre_finite_log_decays

/-- The predicate's one side condition: its constant spreads over the tested array. -/
theorem pre_facts : Cert.Pre_finite_log_decays.Facts := ⟨by decide⟩

/-- An extended real whose absolute value is below infinity is a real number. -/
theorem real_of_abs_lt_top (x : EReal) (h : max x (-x) < ⊤) : x = (x.toReal : EReal) := by
  have h' := max_lt_iff.mp h
  refine (EReal.coe_toReal (ne_of_lt h'.1) fun hb => ?_).symm
  rw [hb, EReal.neg_bot] at h'
  exact lt_irrefl _ h'.2

/-- Where the predicate is one everywhere, every entry it tests is a real number. -/
theorem real_of_pre [Cert.Pre_finite_log_decays.Facts] (X : FVec Ideal S4x8192x32x64 .f32) (A : FVec Ideal S4x8192x32 .f32)
    (B : FVec Ideal S4x8192x32x16 .f32) (h : fn (F := Ideal) X A B = fun _ => 1#1) (b : Fin 4) (t : Fin 8192) (k : Fin 32) :
    A (ix3 b t k) = ((A (ix3 b t k) : EReal).toReal : EReal) := by
  refine real_of_abs_lt_top _ ?_
  have e := congrFun h (ix3 b t k)
  have htop : Ideal.ofBits .f32 0x7F800000#32 = ⊤ := by simp [Ideal.ofBits, Ideal.ieee]
  change BitVec.ofBool (decide (max (A (ix3 b t k) : EReal) (-(A (ix3 b t k) : EReal)) < Ideal.ofBits .f32 0x7F800000#32)) = 1#1 at e
  rw [htop] at e
  by_contra hn
  rw [decide_eq_false hn] at e
  exact absurd e (by decide)

end Cert.Decay

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Kernel
public import proofs.«01_k».proof.Proof.Reference
public import proofs.«01_k».proof.Proof.Finite
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The kernel leaves its arguments as they were and every counter at zero, read on words. -/
theorem frame_kernel : Cert.quiescent_Kernel := fun m ρ _ => Cert.Kernel.Gen.frame m ρ

/-- The same of the kernel read on extended reals. -/
theorem frame_kernel_ideal : Cert.quiescent_KernelIdeal := fun m ρ _ => Cert.KernelIdeal.Gen.frame m ρ

/-- The reference, a host program with no counters, leaves its arguments as they were. -/
theorem frame_reference : Cert.quiescent_ReferenceIdeal := fun m ρ _ =>
  (θ_run Cert.ReferenceIdeal.defs _ _).mono
    (fun r h => ⟨fun c => (h c).2, sem_eq_zero_of_no_sems rfl r.2⟩)
    (Cert.ReferenceIdeal.Value.run m ρ)

/-- From arguments that agree and finite log-decays, the array the kernel leaves is the array the reference computes. -/
theorem result_eq (m : (ℓ : Loc Cert.KernelIdeal.nD Cert.KernelIdeal.τ Cert.KernelIdeal.sig) → Buf (Elt Ideal) ℓ) (c : Dev Cert.KernelIdeal.nD)
    (hA : Cert.KernelIdeal.Result.FiniteLogs m c) :
    Cert.KernelIdeal.Value.G5 m c = Cert.ReferenceIdeal.Read.val_main_v26 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) := by
  funext i
  obtain ⟨g, h, p, n, rfl⟩ : ∃ (g : Fin 16) (h : Fin 8) (p : Fin 64) (n : Fin 16), i = ix4 g h p n :=
    ⟨i 0, i 1, i 2, i 3, funext fun a => match a with | ⟨0, _⟩ => rfl | ⟨1, _⟩ => rfl | ⟨2, _⟩ => rfl | ⟨3, _⟩ => rfl⟩
  refine (Cert.KernelIdeal.Result.result_apply m c hA g h p n).trans ?_
  exact (Cert.ReferenceIdeal.Result.result_apply _ _ _ hA g h p n).symm

/-- The kernel and the reference, read on extended reals, both run and end with the same result. -/
theorem results_agree : Cert.algebraic_KernelIdeal_ReferenceIdeal_pre_finite_log_decays
    (hPre_finite_log_decays := Cert.Decay.pre_facts) := fun m g m' g' hpre hargs => by
  refine ⟨fun c => Cert.KernelIdeal.Value.G5 m c, Cert.KernelIdeal.Value.run m g,
    (θ_run Cert.ReferenceIdeal.defs _ _).mono (fun r h c => ⟨(h c).1.trans ?_, (h c).2⟩) (Cert.ReferenceIdeal.Value.run m' g')⟩
  have hc := hargs c
  rw [Cert.ReferenceIdeal.Read.val_main_v26_eq, hc.1, hc.2.1, hc.2.2]
  exact (result_eq m c (fun b t k => @Cert.Decay.real_of_pre Cert.Decay.pre_facts _ _ _ (hpre c) b t k)).symm

/-- Everything claimed: the frames, with and without the precondition, the idealization and the equal results. -/
theorem claim : Cert.Claim := ⟨Cert.Kernel.Gen.facts, Cert.KernelIdeal.Gen.facts, Cert.ReferenceIdeal.Gen.facts, Cert.Decay.pre_facts,
  frame_kernel, frame_kernel_ideal, fun m ρ _ => frame_kernel_ideal m ρ trivial,
  frame_reference, fun m ρ _ => frame_reference m ρ trivial, trivial, results_agree⟩

end Cert.Proof

end
